-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S8x128x256 : Shape := ⟨3, ![8, 128, 256]⟩
abbrev S4x128x256 : Shape := ⟨3, ![4, 128, 256]⟩
abbrev S8 : Shape := ⟨1, ![8]⟩
abbrev S_ : Shape := ⟨0, ![]⟩
abbrev S1 : Shape := ⟨1, ![1]⟩
abbrev S1x128x256 : Shape := ⟨3, ![1, 128, 256]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S8x128x256, .f32⟩
  | .local _ .vmem, ⟨3, _⟩ => ⟨S4x128x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15 : BitVec 32 := 1#32
  let v28 : BitVec 32 := Scalar.muli v13 c1_i32_15
  let v29 : BitVec 32 := Scalar.addi c0_i32_16 v28
  v29.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18 : BitVec 32 := 1#32
  let v30 : BitVec 32 := Scalar.muli v24 c1_i32_18
  let v31 : BitVec 32 := Scalar.addi c0_i32_19 v30
  v31.toNat
def k0_dev3 (d0 : Dev nD) : Nat :=
  let c0_i32_24 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c1_i32_23 : BitVec 32 := 1#32
  let v32 : BitVec 32 := Scalar.muli v25 c1_i32_23
  let v33 : BitVec 32 := Scalar.addi c0_i32_24 v32
  v33.toNat
def k0_dev4 (d0 : Dev nD) : Nat :=
  let c0_i32_33 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c1_i32_32 : BitVec 32 := 1#32
  let v41 : BitVec 32 := Scalar.muli v25 c1_i32_32
  let v42 : BitVec 32 := Scalar.addi c0_i32_33 v41
  v42.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v26 : BitVec 32 := Scalar.xori v2 c1_i32_13
  let c1_i32_40 : BitVec 32 := 1#32
  let v50 : BitVec 32 := Scalar.muli v26 c1_i32_40
  let v51 : BitVec 32 := Scalar.addi c0_i32_41 v50
  v51.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v26 : BitVec 32 := Scalar.xori v2 c1_i32_13
  let c1_i32_48 : BitVec 32 := 1#32
  let v59 : BitVec 32 := Scalar.muli v26 c1_i32_48
  let v60 : BitVec 32 := Scalar.addi c0_i32_49 v59
  v60.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v26 : BitVec 32 := Scalar.xori v2 c1_i32_13
  let c1_i32_73 : BitVec 32 := 1#32
  let v83 : BitVec 32 := Scalar.muli v26 c1_i32_73
  let v84 : BitVec 32 := Scalar.addi c0_i32_74 v83
  v84.toNat
def k0_dev8 (d0 : Dev nD) : Nat :=
  let c0_i32_98 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c1_i32_97 : BitVec 32 := 1#32
  let v108 : BitVec 32 := Scalar.muli v25 c1_i32_97
  let v109 : BitVec 32 := Scalar.addi c0_i32_98 v108
  v109.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v26 : BitVec 32 := Scalar.xori v2 c1_i32_13
  let c1_i32_121 : BitVec 32 := 1#32
  let v133 : BitVec 32 := Scalar.muli v26 c1_i32_121
  let v134 : BitVec 32 := Scalar.addi c0_i32_122 v133
  v134.toNat
def k0_dev10 (d0 : Dev nD) : Nat :=
  let c0_i32_146 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c1_i32_145 : BitVec 32 := 1#32
  let v158 : BitVec 32 := Scalar.muli v25 c1_i32_145
  let v159 : BitVec 32 := Scalar.addi c0_i32_146 v158
  v159.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S4x512x256 : Shape := ⟨3, ![4, 512, 256]⟩
abbrev S_ : Shape := ⟨0, ![]⟩
abbrev S512x256 : Shape := ⟨2, ![512, 256]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S4x512x256, .f32⟩
  | .hbm, ⟨2, _⟩ => ⟨S_, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Ideal.Steps.lean ====
/-
# The kernel as a sequence of named steps

The kernel's printed text is one long straight line of memory operations. Here the views it uses are named once, by
chunk (`Fin 4`) or by slot (`Fin 8`), the operations it performs for one chunk are gathered into a few steps, and
`body_eq` states that the printed kernel is these steps in order.

* `xC k`: the `k`-th 128-row chunk of the device's block of `x`; `oC k` likewise names a chunk of the output.
* `slot j`: the `j`-th landing slot of the exchange buffer (slots 0..3 the first phase, 4..7 the second).
* `part k`: the `k`-th slot of the buffer of partial sums.
* `sndS j`, `rcvS j`: the semaphores of the `j`-th copy, on the sender's and on the receiver's side.
-/
module

public import proofs.«01_k».proof.Proof.Gen.KernelIdeal.Skeleton
public import proofs.«01_k».proof.Proof.Gen.KernelIdeal.Launch

@[expose] public section

noncomputable section

namespace Cert.KernelIdeal.Own

open Cert.KernelIdeal Cert.KernelIdeal.Gen
open Idealize.ShloMosaic Idealize.ShloMosaic.TcCoe Idealize.SL.Sem

variable {F : FTy → Type} [FloatOps F]

/-- The four whole buffers the kernel is given: the block of `x`, the output, the landing slots, the partial sums. -/
abbrev xM : Memref sig .tc .vmem S512x256 .f32 := Memref.whole cc0_stg0_0
abbrev oM : Memref sig .tc .vmem S512x256 .f32 := Memref.whole cc0_stg1_0
abbrev cM : Memref sig .tc .vmem S8x128x256 .f32 := Memref.whole cc0_scratch0
abbrev pM : Memref sig .tc .vmem S4x128x256 .f32 := Memref.whole cc0_scratch1

/-- Slot numbers of the two phases: chunk `k` travels as copy `k` in the first, as copy `4 + k` in the second. -/
abbrev lo (k : Fin 4) : Fin 8 := ⟨k.val, by omega⟩
abbrev hi (k : Fin 4) : Fin 8 := ⟨4 + k.val, by omega⟩

theorem inbX (k : Fin 4) : ∀ a, (![128 * k.val, 0] : Fin 2 → Nat) a + S128x256.size a ≤ S512x256.size a := by
  revert k; decide
theorem inbC (j : Fin 8) : ∀ a, (![j.val, 0, 0] : Fin 3 → Nat) a + S1x128x256.size a ≤ S8x128x256.size a := by
  revert j; decide
theorem inbP (k : Fin 4) : ∀ a, (![k.val, 0, 0] : Fin 3 → Nat) a + S1x128x256.size a ≤ S4x128x256.size a := by
  revert k; decide
theorem inbS (j : Fin 8) : ∀ a, (![j.val] : Fin 1 → Nat) a + S1.size a ≤ S8.size a := by
  revert j; decide

/-- The rectangles of a chunk of 128 rows, of a landing slot, of a partial sum's slot. -/
abbrev rX (k : Fin 4) : Rect S512x256 := Rect.unit (s := S512x256) ![128 * k.val, 0] S128x256.size (inbX k)
abbrev rC (j : Fin 8) : Rect S8x128x256 := Rect.unit (s := S8x128x256) ![j.val, 0, 0] S1x128x256.size (inbC j)
abbrev rP (k : Fin 4) : Rect S4x128x256 := Rect.unit (s := S4x128x256) ![k.val, 0, 0] S1x128x256.size (inbP k)

/-- Chunk `k` of the block of `x`, landing slot `j`, the slot of the `k`-th partial sum: what the copies run between. -/
abbrev xC (k : Fin 4) : Memref sig .tc .vmem S128x256 .f32 := xM.slice (rX k) (fun _ => rfl)
abbrev slot (j : Fin 8) : Memref sig .tc .vmem S128x256 .f32 :=
  (cM.slice (rC j) (fun _ => rfl)).squeeze S128x256 squeezes_S1x128x256_S128x256
abbrev part (k : Fin 4) : Memref sig .tc .vmem S128x256 .f32 :=
  (pM.slice (rP k) (fun _ => rfl)).squeeze S128x256 squeezes_S1x128x256_S128x256

/-- The semaphores of copy `j`. -/
abbrev sndS (j : Fin 8) : DmaSem sig :=
  ((cc0_scratch2.slice (Rect.unit (s := S8) ![j.val] S1.size (inbS j))).squeeze S_ squeezes_S1_S_).sem
abbrev rcvS (j : Fin 8) : DmaSem sig :=
  ((cc0_scratch3.slice (Rect.unit (s := S8) ![j.val] S1.size (inbS j))).squeeze S_ squeezes_S1_S_).sem
/-- The runtime's barrier semaphore. -/
abbrev barS : Sem sig := (SemArray.scalar (sig.barrier 0 rfl) : Sems sig S_).sem

/-- What a device stores into a partial sum's slot: its own chunk plus the one that landed. -/
def payA (x : Vec F S128x256 .f32) (w : Vec F S1x128x256 .f32) : FVec F S1x128x256 .f32 := k0_pay1 x w
/-- What a device stores into a chunk of the output: the activation of the partial sum plus the one that landed. -/
def payB (p : Vec F S1x128x256 .f32) (w : Vec F S1x128x256 .f32) : FVec F S128x256 .f32 := k0_pay5 p w

/-- A step: a program of one device returning nothing. -/
abbrev Step (F : FTy → Type) : Type 1 := Prog (TpuEff nD τ sig (Elt F) Λ₀ .tc) PUnit

/-- First phase: start the copy of chunk `k` of the block to device `n`'s landing slot `k`. -/
def sendX (k : Fin 4) (n : Dev nD) : Step F :=
  Prog.lift (.enqueueDma (xC k) (.remote (Dev.tc n) (slot (lo k)) (.dma (sndS (lo k)))) (.dma (rcvS (lo k)))
    (View.wordExact_bits rfl) ((View.wordExact_bits rfl).reshape _ _) ⟨⟨rfl, Or.inl rfl⟩, trivial⟩)

/-- Second phase: start the copy of the `k`-th partial sum to device `n`'s landing slot `4 + k`. -/
def sendP (k : Fin 4) (n : Dev nD) : Step F :=
  Prog.lift (.enqueueDma (part k) (.remote (Dev.tc n) (slot (hi k)) (.dma (sndS (hi k)))) (.dma (rcvS (hi k)))
    ((View.wordExact_bits rfl).reshape _ _) ((View.wordExact_bits rfl).reshape _ _) ⟨⟨rfl, Or.inl rfl⟩, trivial⟩)

/-- Wait for the first phase's chunk `k` to land. -/
def waitX (k : Fin 4) : Step F :=
  Prog.lift (.waitDma2 (rcvS (lo k)) (xC k) (slot (lo k)) (View.wordExact_bits rfl) ((View.wordExact_bits rfl).reshape _ _))
/-- Wait for the second phase's chunk `k` to land. -/
def waitP (k : Fin 4) : Step F :=
  Prog.lift (.waitDma2 (rcvS (hi k)) (part k) (slot (hi k)) ((View.wordExact_bits rfl).reshape _ _) ((View.wordExact_bits rfl).reshape _ _))
/-- Wait until the first phase's copy of chunk `k` has read its source. -/
def doneX (k : Fin 4) : Step F :=
  Prog.lift (.waitDma2 (sndS (lo k)) (slot (lo k)) (xC k) ((View.wordExact_bits rfl).reshape _ _) (View.wordExact_bits rfl))
/-- Wait until the second phase's copy of chunk `k` has read its source. -/
def doneP (k : Fin 4) : Step F :=
  Prog.lift (.waitDma2 (sndS (hi k)) (slot (hi k)) (part k) ((View.wordExact_bits rfl).reshape _ _) ((View.wordExact_bits rfl).reshape _ _))

/-- Add the landed chunk to the device's own and keep the partial sum. -/
def addStep (k : Fin 4) : Step F := do
  let x : Vec F S128x256 .f32 ← Prog.lift (.load xM (rX k).toLoadRect (View.loadsAt_vmem h_S128x256))
  let w : Vec F S1x128x256 .f32 ← Prog.lift (.load cM (rC (lo k)).toLoadRect (View.loadsAt_vmem h_S1x128x256))
  let _z : Vec F S1x128x256 .f32 ← Prog.lift (.load pM (rP k).toLoadRect (View.loadsAt_vmem h_S1x128x256))
  Prog.lift (.store pM (rP k) (payA x w) Finset.univ (View.stores_vmem_bits_univ h_S1x128x256 rfl) (.inl rfl))

/-- Add the landed partial sum to the device's own and store the activation of the total. -/
def actStep (k : Fin 4) : Step F := do
  let p : Vec F S1x128x256 .f32 ← Prog.lift (.load pM (rP k).toLoadRect (View.loadsAt_vmem h_S1x128x256))
  let w : Vec F S1x128x256 .f32 ← Prog.lift (.load cM (rC (hi k)).toLoadRect (View.loadsAt_vmem h_S1x128x256))
  let _z : Vec F S128x256 .f32 ← Prog.lift (.load oM (rX k).toLoadRect (View.loadsAt_vmem h_S128x256))
  Prog.lift (.store oM (rX k) (payB p w) Finset.univ (View.stores_vmem_bits_univ h_S128x256 rfl) (.inl rfl))

/-- What a device does for chunk `k` in the first phase once the exchange is under way; `n` is its second peer. -/
def phase1 (k : Fin 4) (n : Dev nD) : Step F := do
  waitX k
  addStep k
  sendP k n
/-- What it does for chunk `k` in the second phase. -/
def phase2 (k : Fin 4) : Step F := do
  waitP k
  actStep k

/-- The whole kernel on device `d`. -/
def steps (d : Dev nD) : Step F := do
  semSignalWord (⟨k0_dev1 d, k0_dev1_lt d⟩ : Dev nD) barS 1#32
  semSignalWord (⟨k0_dev2 d, k0_dev2_lt d⟩ : Dev nD) barS 1#32
  semWaitWord barS 2#32
  sendX 0 ⟨k0_dev3 d, k0_dev3_lt d⟩
  sendX 1 ⟨k0_dev4 d, k0_dev4_lt d⟩
  sendX 2 ⟨k0_dev5 d, k0_dev5_lt d⟩
  sendX 3 ⟨k0_dev6 d, k0_dev6_lt d⟩
  phase1 0 ⟨k0_dev7 d, k0_dev7_lt d⟩
  phase1 2 ⟨k0_dev8 d, k0_dev8_lt d⟩
  phase1 1 ⟨k0_dev9 d, k0_dev9_lt d⟩
  phase1 3 ⟨k0_dev10 d, k0_dev10_lt d⟩
  phase2 0
  phase2 2
  phase2 1
  phase2 3
  doneX 0
  doneX 1
  doneX 2
  doneX 3
  doneP 0
  doneP 2
  doneP 1
  doneP 3

set_option maxRecDepth 65536 in
/-- The printed kernel is the steps above, on the device it runs on. -/
theorem body_eq : cc0_body (F := F) xM (Memref.isWhole_whole _) oM (Memref.isWhole_whole _) cM (Memref.isWhole_whole _)
      pM (Memref.isWhole_whole _) cc0_scratch2 cc0_scratch3
    = (do let d : Dev nD ← Prog.lift .deviceId; steps d) := rfl

end Cert.KernelIdeal.Own

end
-- ==== Proof.Ideal.Peers.lean ====
/-
# Who talks to whom

The four devices sit on a square. Each has two peers: `xp c` across the one axis and `yp c` across the other, and each
is its peers' peer. Copy `j` (0..3 the first phase, 4..7 the second) goes to `peer j c`: the copies 0, 1, 6, 7 across
the first axis, the copies 2, 3, 4, 5 across the other, so that a chunk crosses one axis in the first phase and the
other in the second. The kernel computes these numbers with machine words; the lemmas `dev*_eq` read them.
-/
module

public import proofs.«01_k».proof.Proof.Ideal.Steps

@[expose] public section

noncomputable section

namespace Cert.KernelIdeal.Own

open Cert.KernelIdeal Cert.KernelIdeal.Gen
open Idealize.ShloMosaic Idealize.ShloMosaic.TcCoe

set_option backward.proofsInPublic true in
/-- The peer across the first axis. -/
def xp (c : Dev nD) : Dev nD := ⟨3 - c.val, by have := c.isLt; show _ < 4; omega⟩
set_option backward.proofsInPublic true in
/-- The peer across the second axis. -/
def yp (c : Dev nD) : Dev nD :=
  ⟨if c.val % 2 = 0 then c.val + 1 else c.val - 1, by have : c.val < 4 := c.isLt; show _ < 4; split <;> omega⟩

/-- The peer across the axis named by a truth value: `true` the first axis, `false` the second. -/
def pr (b : Bool) (c : Dev nD) : Dev nD := if b then xp c else yp c

/-- Which axis copy `j` crosses. -/
def side (j : Fin 8) : Bool := decide (j.val < 2 ∨ 6 ≤ j.val)

/-- The device copy `j` of device `c` goes to, and the device whose copy `j` lands at `c`. -/
def peer (j : Fin 8) (c : Dev nD) : Dev nD := pr (side j) c

/-- Whether the device's number is even. -/
def ev (c : Dev nD) : Bool := decide (c.val % 2 = 0)

theorem pr_pr (b : Bool) (c : Dev nD) : pr b (pr b c) = c := by revert b c; decide
theorem peer_peer (j : Fin 8) (c : Dev nD) : peer j (peer j c) = c := pr_pr _ c
theorem peer_of_side {j : Fin 8} {b : Bool} (h : side j = b) (c : Dev nD) : peer j c = pr b c := by rw [← h]; rfl

/-- A device and its partner across an axis, as a pairing of the devices. -/
def swap (b : Bool) : Dev nD ≃ Dev nD := ⟨pr b, pr b, pr_pr b, pr_pr b⟩

/-- The devices the kernel's words name: the two it signals, the targets of its first copies, those of its second ones. -/
theorem dev1_eq (c : Dev nD) : (⟨k0_dev1 c, k0_dev1_lt c⟩ : Dev nD) = pr (ev c) c := by revert c; decide +kernel
theorem dev2_eq (c : Dev nD) : (⟨k0_dev2 c, k0_dev2_lt c⟩ : Dev nD) = pr (!ev c) c := by revert c; decide +kernel
theorem dev3_eq (c : Dev nD) : (⟨k0_dev3 c, k0_dev3_lt c⟩ : Dev nD) = peer (lo 0) c := by revert c; decide +kernel
theorem dev4_eq (c : Dev nD) : (⟨k0_dev4 c, k0_dev4_lt c⟩ : Dev nD) = peer (lo 1) c := by revert c; decide +kernel
theorem dev5_eq (c : Dev nD) : (⟨k0_dev5 c, k0_dev5_lt c⟩ : Dev nD) = peer (lo 2) c := by revert c; decide +kernel
theorem dev6_eq (c : Dev nD) : (⟨k0_dev6 c, k0_dev6_lt c⟩ : Dev nD) = peer (lo 3) c := by revert c; decide +kernel
theorem dev7_eq (c : Dev nD) : (⟨k0_dev7 c, k0_dev7_lt c⟩ : Dev nD) = peer (hi 0) c := by revert c; decide +kernel
theorem dev8_eq (c : Dev nD) : (⟨k0_dev8 c, k0_dev8_lt c⟩ : Dev nD) = peer (hi 2) c := by revert c; decide +kernel
theorem dev9_eq (c : Dev nD) : (⟨k0_dev9 c, k0_dev9_lt c⟩ : Dev nD) = peer (hi 1) c := by revert c; decide +kernel
theorem dev10_eq (c : Dev nD) : (⟨k0_dev10 c, k0_dev10_lt c⟩ : Dev nD) = peer (hi 3) c := by revert c; decide +kernel

end Cert.KernelIdeal.Own

end
-- ==== Proof.Ideal.Chunks.lean ====
/-
# What the buffers hold, chunk by chunk

A device's block of `x` is four chunks of 128 rows. `xv c k` is chunk `k` of device `c`'s block; `sv c k` its sum with
the first peer's; `tv c k` the sum of that with the second peer's partial sum; `av c k` the activation of the total,
which is chunk `k` of the device's output. The slots of the exchange buffer and of the partial sums are slabs of a stack
(`stack`), the chunks of the block and of the output are bands of rows (`bands`): the lemmas here read one slab or band,
and say what writing one leaves.
-/
module

public import proofs.«01_k».proof.Proof.Ideal.Peers
public import Idealize.ShloMosaic.Lib.Pipeline.Launch
public import Idealize.ShloMosaic.Lib.Pipeline.Value
public import Idealize.ShloMosaic.Lib.PointwiseCore
public import Idealize.ShloMosaic.Lib.ValueLayout
public import Idealize.ShloMosaic.Lib.Ring

@[expose] public section

noncomputable section

namespace Cert.KernelIdeal.Own

open Cert.KernelIdeal Cert.KernelIdeal.Gen
open Idealize.ShloMosaic Idealize.ShloMosaic.TcCoe

variable {F : FTy → Type} [FloatOps F]

/-- One chunk as a vector. -/
abbrev Chunk (F : FTy → Type) : Type := Vec F S128x256 .f32

/-! ## Stacks of slabs and bands of rows -/

/-- A stack whose `j`-th slab is `v j`. -/
def stack {n : ℕ} (v : Fin n → Chunk F) : Vec F ⟨3, ![n, 128, 256]⟩ .f32 := fun i => v (i 0) (ix2 (i 1) (i 2))

set_option backward.proofsInPublic true in
/-- A block of 512 rows whose `k`-th band of 128 rows is `v k`. -/
def bands (v : Fin 4 → Chunk F) : Vec F S512x256 .f32 := fun i =>
  v ⟨(i 0).val / 128, by have : (i 0).val < 512 := (i 0).isLt; omega⟩
    (ix2 ⟨(i 0).val % 128, Nat.mod_lt _ (by decide)⟩ (i 1))

omit [FloatOps F] in
/-- The band a row of a chunk lies in, and its place there. -/
theorem bands_at (v : Fin 4 → Chunk F) (k : Fin 4) (y : S128x256.Idx) (i : S512x256.Idx)
    (h0 : (i 0).val = 128 * k.val + (y 0).val) (h1 : (i 1).val = (y 1).val) : bands v i = v k y := by
  have hy : (y 0).val < 128 := (y 0).isLt
  unfold bands
  rw [show (⟨(i 0).val / 128, by have : (i 0).val < 512 := (i 0).isLt; omega⟩ : Fin 4) = k from Fin.ext (by show _ / 128 = _; omega)]
  congr 1
  rw [eq_ix2 y]
  exact (ix2_inj _ _ _ _).mpr ⟨Fin.ext (by show _ % 128 = _; omega), Fin.ext h1⟩

omit [FloatOps F] in
/-- The slab an index lies in, and its place there. -/
theorem stack_at {n : ℕ} (v : Fin n → Chunk F) (j : Fin n) (y : S128x256.Idx) (i : (⟨3, ![n, 128, 256]⟩ : Shape).Idx)
    (h0 : (i 0).val = j.val) (h1 : (i 1).val = (y 0).val) (h2 : (i 2).val = (y 1).val) : stack v i = v j y := by
  unfold stack
  rw [show (i 0 : Fin n) = j from Fin.ext h0]
  congr 1
  rw [eq_ix2 y]
  exact (ix2_inj _ _ _ _).mpr ⟨Fin.ext h1, Fin.ext h2⟩

/-! ## Where a chunk's elements lie in its buffer -/

theorem slot_emb (j : Fin 8) (y : S128x256.Idx) : (((slot j).view.emb y : S8x128x256.Idx) 0).val = j.val
    ∧ (((slot j).view.emb y : S8x128x256.Idx) 1).val = (y 0).val ∧ (((slot j).view.emb y : S8x128x256.Idx) 2).val = (y 1).val := by
  have h : ((slot j).view.emb y : S8x128x256.Idx) = (rC j).emb (Fin.cons ⟨0, Nat.one_pos⟩ y) := by
    show (rC j).emb (Shape.reshapeEquiv _ y) = _
    exact congrArg _ (Shape.reshapeEquiv_cons_one _ y)
  rw [h]
  refine ⟨?_, ?_, ?_⟩
  · show j.val + 1 * 0 = _; omega
  · show 0 + 1 * (y 0).val = _; omega
  · show 0 + 1 * (y 1).val = _; omega

theorem part_emb (k : Fin 4) (y : S128x256.Idx) : (((part k).view.emb y : S4x128x256.Idx) 0).val = k.val
    ∧ (((part k).view.emb y : S4x128x256.Idx) 1).val = (y 0).val ∧ (((part k).view.emb y : S4x128x256.Idx) 2).val = (y 1).val := by
  have h : ((part k).view.emb y : S4x128x256.Idx) = (rP k).emb (Fin.cons ⟨0, Nat.one_pos⟩ y) := by
    show (rP k).emb (Shape.reshapeEquiv _ y) = _
    exact congrArg _ (Shape.reshapeEquiv_cons_one _ y)
  rw [h]
  refine ⟨?_, ?_, ?_⟩
  · show k.val + 1 * 0 = _; omega
  · show 0 + 1 * (y 0).val = _; omega
  · show 0 + 1 * (y 1).val = _; omega

theorem rX_emb (k : Fin 4) (y : S128x256.Idx) : (((rX k).emb y : S512x256.Idx) 0).val = 128 * k.val + (y 0).val
    ∧ (((rX k).emb y : S512x256.Idx) 1).val = (y 1).val := by
  constructor
  · show 128 * k.val + 1 * (y 0).val = _; omega
  · show 0 + 1 * (y 1).val = _; omega

/-! ## Reading a chunk -/

/-- Landing slot `j` of a stack holds its `j`-th slab; so does the `k`-th partial sum's slot; and the `k`-th chunk of
    the block holds the `k`-th band. -/
theorem slot_read (v : Fin 8 → Chunk F) (j : Fin 8) : (slot j).view.read (Elt F) (stack v) = v j :=
  funext fun y => by have h := slot_emb j y; exact stack_at v j y _ h.1 h.2.1 h.2.2
theorem part_read (v : Fin 4 → Chunk F) (k : Fin 4) : (part k).view.read (Elt F) (stack v) = v k :=
  funext fun y => by have h := part_emb k y; exact stack_at v k y _ h.1 h.2.1 h.2.2
theorem xC_read (v : Fin 4 → Chunk F) (k : Fin 4) : (xC k).view.read (Elt F) (bands v) = v k :=
  funext fun y => by have h := rX_emb k y; exact bands_at v k y _ h.1 h.2

/-- A load of a slab through the whole buffer reads it with a leading axis of extent one; dropping the axis gives the slab. -/
theorem load_slot (v : Fin 8 → Chunk F) (j : Fin 8) :
    shapeCast S128x256 (cM.view.readAt (Elt F) (rC j).toLoadRect (stack v)) shapeCasts_S1x128x256_S128x256 = v j :=
  (Memref.read_squeeze_slice cM (rC j) (fun _ => rfl) squeezes_S1x128x256_S128x256 shapeCasts_S1x128x256_S128x256 (stack v)).symm.trans (slot_read v j)
theorem load_part (v : Fin 4 → Chunk F) (k : Fin 4) :
    shapeCast S128x256 (pM.view.readAt (Elt F) (rP k).toLoadRect (stack v)) shapeCasts_S1x128x256_S128x256 = v k :=
  (Memref.read_squeeze_slice pM (rP k) (fun _ => rfl) squeezes_S1x128x256_S128x256 shapeCasts_S1x128x256_S128x256 (stack v)).symm.trans (part_read v k)
theorem load_xC (v : Fin 4 → Chunk F) (k : Fin 4) : xM.view.readAt (Elt F) (rX k).toLoadRect (bands v) = v k := xC_read v k

/-! ## Writing a chunk -/

/-- After a copy of the `j`-th slab into landing slot `j`, that slot holds what the stack holds there. -/
theorem slot_write (v : Fin 8 → Chunk F) (j : Fin 8) (f : Vec F S8x128x256 .f32) (w : Chunk F) (hw : w = v j) :
    ∀ i ∈ (slot j).view.set, (slot j).view.write (Elt F) f w Finset.univ i = stack v i := by
  intro i hi
  obtain ⟨y, -, rfl⟩ := Finset.mem_map.mp hi
  rw [View.write_emb_of_mem _ _ (Finset.mem_univ y), hw]
  exact (congrFun (slot_read v j) y).symm

/-- A store of the `k`-th slab, with a leading axis of extent one, into the partial sums leaves the stack's contents there. -/
theorem part_store (v : Fin 4 → Chunk F) (k : Fin 4) (f : Vec F S4x128x256 .f32) (w : Vec F S1x128x256 .f32)
    (hw : shapeCast S128x256 w shapeCasts_S1x128x256_S128x256 = v k) :
    ∀ i ∈ (part k).view.set, (pM.access (rP k)).write (Elt F) f w Finset.univ i = stack v i := by
  intro i hi
  obtain ⟨y, -, rfl⟩ := Finset.mem_map.mp hi
  have h : (part k).view.emb y = (pM.access (rP k)).emb (Shape.reshapeEquiv shapeCasts_S1x128x256_S128x256 y) := rfl
  refine Eq.trans ?_ (congrFun (part_read v k) y).symm
  rw [h, View.write_emb_of_mem _ _ (Finset.mem_univ _), ← hw]
  rfl

/-- A store of the `k`-th band into the output leaves the bands' contents there. -/
theorem out_store (v : Fin 4 → Chunk F) (k : Fin 4) (f : Vec F S512x256 .f32) (w : Chunk F) (hw : w = v k) :
    ∀ i ∈ (oM.access (rX k)).set, (oM.access (rX k)).write (Elt F) f w Finset.univ i = bands v i := by
  intro i hi
  obtain ⟨y, -, rfl⟩ := Finset.mem_map.mp hi
  rw [View.write_emb_of_mem _ _ (Finset.mem_univ y), hw]
  exact (congrFun (xC_read v k) y).symm

/-! ## The values -/

/-- What a chunk's total is turned into. -/
def act (s : Chunk F) : Chunk F :=
  addf (mulf (mulf (tanh s) s) s)
    (mulf (mulf (maximumf s (broadcast S128x256 (Scalar.ofBits .f32 0x00000000#32)))
        (maximumf s (broadcast S128x256 (Scalar.ofBits .f32 0x00000000#32))))
      (maximumf s (broadcast S128x256 (Scalar.ofBits .f32 0x00000000#32))))

/-- What the first phase stores is the sum of the two chunks it loaded. -/
theorem payA_eq (x : Chunk F) (w : Vec F S1x128x256 .f32) :
    shapeCast S128x256 (payA x w) shapeCasts_S1x128x256_S128x256 = addf x (shapeCast S128x256 w shapeCasts_S1x128x256_S128x256) := by
  unfold payA k0_pay1
  rw [shapeCast_shapeCast, shapeCast_self]

/-- What the second phase stores is the activation of the sum of the two chunks it loaded. -/
theorem payB_eq (p w : Vec F S1x128x256 .f32) :
    payB p w = act (addf (shapeCast S128x256 p shapeCasts_S1x128x256_S128x256) (shapeCast S128x256 w shapeCasts_S1x128x256_S128x256)) := by
  unfold payB k0_pay5
  simp only [shapeCast_self]
  rfl

section Values
variable (X : Dev nD → Vec F S512x256 .f32)

/-- Chunk `k` of a device's block, from the blocks `X` of all devices. -/
def xv (c : Dev nD) (k : Fin 4) : Chunk F := (xC k).view.read (Elt F) (X c)
/-- Its sum with the first peer's. -/
def sv (c : Dev nD) (k : Fin 4) : Chunk F := addf (xv X c k) (xv X (peer (lo k) c) k)
/-- The sum of that with the second peer's partial sum. -/
def tv (c : Dev nD) (k : Fin 4) : Chunk F := addf (sv X c k) (sv X (peer (hi k) c) k)
/-- The chunk of the output. -/
def av (c : Dev nD) (k : Fin 4) : Chunk F := act (tv X c k)
set_option backward.proofsInPublic true in
/-- What lands in slot `j`: the first phase's chunks of the peers' blocks, then the peers' partial sums. -/
def cv (c : Dev nD) (j : Fin 8) : Chunk F :=
  if h : j.val < 4 then xv X (peer j c) ⟨j.val, h⟩ else sv X (peer j c) ⟨j.val - 4, by have := j.isLt; omega⟩

theorem cv_lo (c : Dev nD) (k : Fin 4) : cv X c (lo k) = xv X (peer (lo k) c) k := by
  unfold cv; rw [dif_pos (show (lo k).val < 4 from k.isLt)]
theorem cv_hi (c : Dev nD) (k : Fin 4) : cv X c (hi k) = sv X (peer (hi k) c) k := by
  unfold cv; rw [dif_neg (show ¬ (hi k).val < 4 by show ¬ 4 + k.val < 4; omega)]
  congr 1; exact Fin.ext (by show 4 + k.val - 4 = k.val; omega)

/-- A device's block is made of its four chunks. -/
theorem bands_xv (c : Dev nD) : bands (xv X c) = X c := by
  funext i
  have h := rX_emb ⟨(i 0).val / 128, by have : (i 0).val < 512 := (i 0).isLt; omega⟩ (ix2 ⟨(i 0).val % 128, Nat.mod_lt _ (by decide)⟩ (i 1))
  refine congrArg (X c) (funext fun a => Fin.ext ?_)
  match a with
  | ⟨0, _⟩ => exact h.1.trans (Nat.div_add_mod (i 0).val 128)
  | ⟨1, _⟩ => exact h.2

end Values

end Cert.KernelIdeal.Own

end
-- ==== Proof.Ideal.Protocol.lean ====
/-
# The protocol between the devices

Every device has seventeen semaphores others or it wait on: the runtime's barrier semaphore, and for each of the eight
copies one on the sender's and one on the receiver's side. Each is used for one round only.

* Barrier: both peers signal it once. The peer across axis `b` hands over, with its signal, the four of its landing
  slots that this device will write (their contents do not matter). So once a device has waited for both signals it
  may write into all eight slots it is to write.
* Receiving side of copy `j`: paid by the copy itself when it lands; its payment is this device's landing slot `j`,
  holding what was sent (`cv`).
* Sending side of copy `j`: paid by the copy when it has read its source; its payment is the lent half of the source.

No device waits forever: a device that waits for its barrier owes only copies; one that waits for a first-phase copy
owes only second-phase copies; and after its last copy it owes nothing. The levels (`lv`) record that order.
-/
module

public import proofs.«01_k».proof.Proof.Ideal.Chunks
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the launch's own part beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

abbrev barCell (c : Dev nD) : GSem nD τ sig := ((c : Thread nD τ), .reg barS)
abbrev sndCell (c : Dev nD) (j : Fin 8) : GSem nD τ sig := ((c : Thread nD τ), .dma (sndS j))
abbrev rcvCell (c : Dev nD) (j : Fin 8) : GSem nD τ sig := ((c : Thread nD τ), .dma (rcvS j))

/-- Names for the sixteen copy semaphores (sending side, receiving side), and for all seventeen. -/
abbrev OKey : Type := Fin 8 ⊕ Fin 8
abbrev Key : Type := Unit ⊕ OKey

abbrev osem : OKey → SemLoc sig := fun | .inl j => .dma (sndS j) | .inr j => .dma (rcvS j)
abbrev csem : Key → SemLoc sig := fun | .inl _ => .reg barS | .inr k => osem k
abbrev kcell (ck : Dev nD × Key) : GSem nD τ sig := ((ck.1 : Thread nD τ), csem ck.2)

set_option backward.proofsInPublic true in
/-- Which of the seventeen a semaphore is, if any. -/
def keyOf : SemLoc sig → Option Key
  | .reg _ => some (.inl ())
  | .dma q =>
    if 10 ≤ q.val then some (.inr (.inr ⟨q.val - 10, by have : q.val < 18 := q.isLt; omega⟩))
    else if h : 2 ≤ q.val ∧ q.val < 10 then some (.inr (.inl ⟨q.val - 2, by omega⟩)) else none

theorem keyOf_bar : keyOf (.reg barS) = some (.inl ()) := rfl
theorem keyOf_snd (j : Fin 8) : keyOf (.dma (sndS j)) = some (.inr (.inl j)) := by revert j; decide
theorem keyOf_rcv (j : Fin 8) : keyOf (.dma (rcvS j)) = some (.inr (.inr j)) := by revert j; decide
theorem keyOf_csem (k : Key) : keyOf (csem k) = some k :=
  match k with
  | .inl () => keyOf_bar
  | .inr (.inl j) => keyOf_snd j
  | .inr (.inr j) => keyOf_rcv j

/-- What a copy of one chunk adds to the semaphores it completes on. -/
def N : ℕ := (xC 0).view.dmaCredit
theorem N_pos : 0 < N := View.dmaCredit_pos _ (by decide)
theorem credit_xC (k : Fin 4) : (xC k).view.dmaCredit = N := rfl
theorem credit_slot (j : Fin 8) : (slot j).view.dmaCredit = N := rfl
theorem credit_part (k : Fin 4) : (part k).view.dmaCredit = N := rfl

/-! ## Pieces of buffers -/

/-- Landing slot `j` of device `c`, held whole at contents `f`. -/
def slotPts (c : Dev nD) (j : Fin 8) (f : Vec F S8x128x256 .f32) : sProp 𝕄 :=
  (slot j).view.loc (c : Thread nD τ) ↦[(slot j).view.set]{fullShare} f
/-- The slot of the `k`-th partial sum of device `c`, at share `q` and contents `f`. -/
def partPts (q : PosShare TreeShare) (c : Dev nD) (k : Fin 4) (f : Vec F S4x128x256 .f32) : sProp 𝕄 :=
  (part k).view.loc (c : Thread nD τ) ↦[(part k).view.set]{q} f
/-- Chunk `k` of the block of `x`, at share `q` and contents `f`. -/
def xPts (q : PosShare TreeShare) (c : Dev nD) (k : Fin 4) (f : Vec F S512x256 .f32) : sProp 𝕄 :=
  (xC k).view.loc (c : Thread nD τ) ↦[(xC k).view.set]{q} f
/-- Chunk `k` of the output, whole, at contents `f`. -/
def outPts (c : Dev nD) (k : Fin 4) (f : Vec F S512x256 .f32) : sProp 𝕄 :=
  (oM.access (rX k)).loc (c : Thread nD τ) ↦[(oM.access (rX k)).set]{fullShare} f

omit [FloatOps F] in
instance slotPts_storable (c : Dev nD) (j : Fin 8) (f) : BI.Storable (upEmb : UEmb _ 𝕄) (slotPts (F := F) c j f) := by unfold slotPts; infer_instance
omit [FloatOps F] in
instance partPts_storable (q) (c : Dev nD) (k : Fin 4) (f) : BI.Storable (upEmb : UEmb _ 𝕄) (partPts (F := F) q c k f) := by unfold partPts; infer_instance
omit [FloatOps F] in
instance xPts_storable (q) (c : Dev nD) (k : Fin 4) (f) : BI.Storable (upEmb : UEmb _ 𝕄) (xPts (F := F) q c k f) := by unfold xPts; infer_instance

variable (X : Dev nD → Vec F S512x256 .f32)

/-! ## The payments -/

/-- What the peer across axis `d` hands over with its signal: its landing slots that `c`'s copies go to. -/
def barPay (c : Dev nD) (d : Bool) : sProp 𝕄 :=
  bigSep (Finset.univ.filter fun j : Fin 8 => side j = d) fun j => iprop(∃ f, slotPts (peer j c) j f)
/-- What landed in slot `j`. -/
def rcvPay (c : Dev nD) (j : Fin 8) : sProp 𝕄 := slotPts c j (stack (cv X c))
/-- The source of copy `j`, back. -/
def sndPay (c : Dev nD) (j : Fin 8) : sProp 𝕄 :=
  if h : j.val < 4 then xPts fullShare.right c ⟨j.val, h⟩ (X c)
  else partPts fullShare.right c ⟨j.val - 4, by have := j.isLt; omega⟩ (stack (sv X c))

theorem sndPay_lo (c : Dev nD) (k : Fin 4) : sndPay X c (lo k) = xPts fullShare.right c k (X c) := by
  unfold sndPay; rw [dif_pos (show (lo k).val < 4 from k.isLt)]
theorem sndPay_hi (c : Dev nD) (k : Fin 4) : sndPay X c (hi k) = partPts fullShare.right c k (stack (sv X c)) := by
  unfold sndPay; rw [dif_neg (show ¬ (hi k).val < 4 by show ¬ 4 + k.val < 4; omega)]
  congr 1; exact Fin.ext (by show 4 + k.val - 4 = k.val; omega)

/-! ## The schedule -/

/-- One round: a barrier has a duty of one unit for each peer, a copy's semaphore one duty of the copy's credit. -/
def Rd : Rounds.Schedule (GSem nD τ sig) Bool 𝕄 where
  duties g r := if r = 0 ∧ g.1.2 = .tc then
      (match keyOf g.2 with | some (.inl _) => Finset.univ | some (.inr _) => {false} | none => ∅) else ∅
  unitless _ := False
  amount g _ _ := match keyOf g.2 with | some (.inl _) => 1 | _ => N
  payload g _ d := match keyOf g.2 with
    | some (.inl _) => barPay g.1.1 d
    | some (.inr (.inl j)) => sndPay X g.1.1 j
    | some (.inr (.inr j)) => rcvPay X g.1.1 j
    | none => iprop(emp)
  amount_pos g _ _ _ := by
    split
    · exact Nat.one_pos
    · exact N_pos

instance Rd_payload_storable (g : GSem nD τ sig) (r : ℕ) (d : Bool) :
    BI.Storable (upEmb : UEmb _ 𝕄) ((Rd (F := F) X).payload g r d) := by
  show BI.Storable upEmb (match keyOf g.2 with
    | some (.inl _) => barPay g.1.1 d
    | some (.inr (.inl j)) => sndPay X g.1.1 j
    | some (.inr (.inr j)) => rcvPay X g.1.1 j
    | none => iprop(emp))
  unfold barPay sndPay rcvPay
  (repeat' split) <;> infer_instance

section Sched
variable (c : Dev nD) (j : Fin 8) (d : Bool)

theorem duties_bar : (Rd X).duties (barCell c) 0 = Finset.univ := by
  dsimp only [Rd]; rw [if_pos ⟨rfl, rfl⟩, keyOf_bar]
theorem duties_snd : (Rd X).duties (sndCell c j) 0 = {false} := by
  dsimp only [Rd]; rw [if_pos ⟨rfl, rfl⟩, keyOf_snd]
theorem duties_rcv : (Rd X).duties (rcvCell c j) 0 = {false} := by
  dsimp only [Rd]; rw [if_pos ⟨rfl, rfl⟩, keyOf_rcv]
theorem duties_later (g : GSem nD τ sig) : ∀ r, 0 + 1 ≤ r → (Rd X).duties g r = ∅ :=
  fun r hr => by dsimp only [Rd]; rw [if_neg fun h => by omega]

theorem amount_bar : (Rd X).amount (barCell c) 0 d = 1 := by dsimp only [Rd]; rw [keyOf_bar]
theorem amount_snd : (Rd X).amount (sndCell c j) 0 d = N := by dsimp only [Rd]; rw [keyOf_snd]
theorem amount_rcv : (Rd X).amount (rcvCell c j) 0 d = N := by dsimp only [Rd]; rw [keyOf_rcv]

theorem payload_bar : (Rd X).payload (barCell c) 0 d = barPay c d := by dsimp only [Rd]; rw [keyOf_bar]
theorem payload_snd : (Rd X).payload (sndCell c j) 0 d = sndPay X c j := by dsimp only [Rd]; rw [keyOf_snd]
theorem payload_rcv : (Rd X).payload (rcvCell c j) 0 d = rcvPay X c j := by dsimp only [Rd]; rw [keyOf_rcv]

theorem expect_bar : (Rd X).expect (barCell c) 0 = 2 := by
  unfold Schedule.expect Schedule.amountOf
  rw [duties_bar, Finset.sum_congr rfl fun d _ => amount_bar X c d, Finset.sum_const, Finset.card_univ, Fintype.card_bool, smul_eq_mul]
theorem expect_snd : (Rd X).expect (sndCell c j) 0 = N := by
  unfold Schedule.expect Schedule.amountOf; rw [duties_snd, Finset.sum_singleton, amount_snd]
theorem expect_rcv : (Rd X).expect (rcvCell c j) 0 = N := by
  unfold Schedule.expect Schedule.amountOf; rw [duties_rcv, Finset.sum_singleton, amount_rcv]

/-- All a semaphore's round pays its waiter. -/
theorem rest_snd : bigSep ((Rd X).duties (sndCell c j) 0 \ ∅) (fun d => (Rd X).payload (sndCell c j) 0 d) = sndPay X c j := by
  rw [Finset.sdiff_empty, duties_snd, bigSep_singleton, payload_snd]
theorem rest_rcv : bigSep ((Rd X).duties (rcvCell c j) 0 \ ∅) (fun d => (Rd X).payload (rcvCell c j) 0 d) = rcvPay X c j := by
  rw [Finset.sdiff_empty, duties_rcv, bigSep_singleton, payload_rcv]
/-- After both signals: all eight slots the device's copies go to. -/
theorem rest_bar : bigSep ((Rd X).duties (barCell c) 0 \ ∅) (fun d => (Rd X).payload (barCell c) 0 d)
    = bigSep Finset.univ fun j : Fin 8 => iprop(∃ f, slotPts (F := F) (peer j c) j f) := by
  rw [Finset.sdiff_empty, duties_bar, bigSep_congr fun d _ => payload_bar X c d,
    bigSep_univ_eq_bigSepL [true, false] (by decide) (by decide), bigSepL_cons_cons, bigSepL_singleton]
  unfold barPay
  rw [bigSep_filter_split Finset.univ fun j : Fin 8 => side j = true]
  simp only [Bool.not_eq_true]

end Sched

/-- A device's landing slots, all free, are what it owes its two peers' barriers. -/
theorem slots_split (c : Dev nD) (b : Bool) : bigSep Finset.univ (fun j : Fin 8 => iprop(∃ f, slotPts (F := F) c j f))
    = iprop(barPay (F := F) (pr b c) b ∗ barPay (F := F) (pr (!b) c) (!b)) := by
  have h (b : Bool) : barPay (F := F) (pr b c) b = bigSep (Finset.univ.filter fun j : Fin 8 => side j = b) fun j => iprop(∃ f, slotPts c j f) := by
    unfold barPay
    refine bigSep_congr fun j hj => ?_
    rw [peer_of_side (Finset.mem_filter.mp hj).2, pr_pr]
  rw [h, h, bigSep_filter_split Finset.univ fun j : Fin 8 => side j = b]
  rw [show (Finset.univ.filter fun j : Fin 8 => ¬ side j = b) = Finset.univ.filter fun j : Fin 8 => side j = !b from by revert b; decide]
  rfl

/-! ## What a device owes; the order of waiting -/

/-- What a device owes for copy `j`: the copy's credit at its target. -/
def due (c : Dev nD) (j : Fin 8) : CellTallies nD τ sig Unit := tallyAt (rcvCell (peer j c) j) () N
/-- What it owes for a list of copies. -/
def dues (c : Dev nD) : List (Fin 8) → CellTallies nD τ sig Unit
  | [] => 0
  | j :: l => dues c l + due c j

/-- The second-phase copies in the order they are started, and all copies. -/
abbrev later : List (Fin 8) := [hi 0, hi 2, hi 1, hi 3]
abbrev copies : List (Fin 8) := lo 0 :: lo 1 :: lo 2 :: lo 3 :: later

/-- At the start a device owes all its copies and a signal to each peer. -/
def O₀ (c : Dev nD) : CellTallies nD τ sig Unit :=
  dues c copies + tallyAt (barCell (pr (!ev c) c)) () 1 + tallyAt (barCell (pr (ev c) c)) () 1

def L (g : GSem nD τ sig) : Finset Unit := if g.1.2 = .tc then {()} else ∅
/-- The order of waiting: staging and the sending sides first, then barriers, then first-phase copies, then second-phase ones. -/
def lv (g : GSem nD τ sig) (_ : Unit) : ℕ := match keyOf g.2 with
  | some (.inl _) => 1
  | some (.inr (.inr j)) => if j.val < 4 then 2 else 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [keyOf_bar]
theorem lv_rcv (c : Dev nD) (j : Fin 8) : lv (rcvCell c j) () = if j.val < 4 then 2 else 3 := by unfold lv; rw [keyOf_rcv]

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- What is owed for a list of copies is owed at their targets' receiving sides. -/
theorem dues_pos (c : Dev nD) {g : GSem nD τ sig} {u : Unit} : ∀ l : List (Fin 8), 0 < dues c l g u → ∃ j ∈ l, g = rcvCell (peer j c) j
  | [], h => absurd h (Nat.lt_irrefl 0)
  | j :: l, h => by
    unfold dues at h
    rw [Pi.add_apply, Finsupp.add_apply] at h
    rcases Nat.eq_zero_or_pos (dues c l g u) with h0 | h0
    · rw [h0, Nat.zero_add] at h
      exact ⟨j, List.mem_cons_self, tally_pos h⟩
    · obtain ⟨j', hj', e⟩ := dues_pos c l h0
      exact ⟨j', List.mem_cons_of_mem _ hj', e⟩

theorem O₀_pos {c : Dev nD} {g : GSem nD τ sig} {u : Unit} (h : 0 < O₀ c g u) :
    (∃ j, g = rcvCell (peer j c) j) ∨ ∃ b, g = barCell (pr b c) := by
  unfold O₀ at h
  rw [Pi.add_apply, Finsupp.add_apply, Pi.add_apply, Finsupp.add_apply] at h
  rcases Nat.eq_zero_or_pos (dues c copies g u) with h0 | h0
  · rcases Nat.eq_zero_or_pos ((tallyAt (barCell (pr (!ev c) c)) () 1 : CellTallies nD τ sig Unit) g u) with h1 | h1
    · rw [h0, h1, Nat.zero_add] at h
      exact .inr ⟨_, tally_pos h⟩
    · exact .inr ⟨_, tally_pos h1⟩
  · obtain ⟨j, -, e⟩ := dues_pos c _ h0
    exact .inl ⟨j, e⟩

/-- A wait on a semaphore below every copy still owed is allowed. -/
theorem mayWait_dues (c : Dev nD) (sm : SemLoc sig) (n : ℕ) (l : List (Fin 8)) (h0 : lv ((c : Thread nD τ), sm) () ≤ n)
    (hl : ∀ j ∈ l, n < if j.val < 4 then 2 else 3) : (levAts L lv : sProp 𝕄) ⊢ MayWait (c : Thread nD τ) sm () (dues c l) :=
  MayOwe.of_cut (L := L) (lev := lv) n (fun p hp => by rw [Finset.mem_singleton.mp hp, L_tc]; exact Finset.mem_singleton_self _)
    (fun g u hg => by obtain ⟨j, -, rfl⟩ := dues_pos c l hg; rw [L_tc]; exact Finset.mem_singleton_self _)
    (fun p hp => by rw [Finset.mem_singleton.mp hp]; exact h0)
    (fun g u hg => by obtain ⟨j, hj, rfl⟩ := dues_pos c l hg; cases u; rw [lv_rcv]; exact hl j hj)

/-- The launch's own waits are on semaphores below all others. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> (rw [L_tc]; exact Finset.mem_singleton_self _))
      (fun p hp => by
        rw [Finset.mem_singleton.mp hp]; unfold lv keyOf
        simp only [if_neg (show ¬ 10 ≤ q.val by omega), dif_neg (show ¬ (2 ≤ q.val ∧ q.val < 10) by omega)]; exact Nat.le_refl 0)
      (fun g u hg => by
        cases u
        rcases O₀_pos hg with ⟨j, rfl⟩ | ⟨b, rfl⟩
        · rw [lv_rcv]; split <;> decide
        · rw [lv_bar]; decide)
  · rw [MayWait_zero]; iintro -; iempintro

end Cert.KernelIdeal.Own

end
-- ==== Proof.Ideal.Moves.lean ====
/-
# What each step of the kernel does

One lemma for each kind of step, at any chunk `k` and device `c`: from what the step needs, the step runs and leaves what
it says, whatever is to be proved of the rest (`Q`). Every device may use the records of all devices' semaphores
(`records`), which are never used up.
-/
module

public import proofs.«01_k».proof.Proof.Ideal.Protocol

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x256 .f32) (K : Dev nD × Key → ℕ)

abbrev 𝒱₀ : Variants := Variants.none

/-- What a device may know of all semaphores: each is governed by the schedule, and is in its first round. -/
def records : sProp 𝕄 :=
  iprop((bigSep Finset.univ fun ck : Dev nD × Key => cellInv ER (Rd X) (K ck) (kcell ck))
    ∗ bigSep Finset.univ fun ck : Dev nD × Key => reached ER (kcell ck) 0)

instance records_persistent : BI.Persistent (records X K) := by unfold records; infer_instance

theorem inv_at (ck : Dev nD × Key) : records X K ⊢ cellInv ER (Rd X) (K ck) (kcell ck) :=
  sep_elim_left.trans (bigSep_elim (Finset.mem_univ ck))
theorem reached_at (ck : Dev nD × Key) : records X K ⊢ reached ER (kcell ck) 0 :=
  sep_elim_right.trans (bigSep_elim (Finset.mem_univ ck))

/-- Device `c` owes `O`. -/
def held (c : Dev nD) (O : CellTallies nD τ sig Unit) : sProp 𝕄 := iprop(∃ W, owes (c : Thread nD τ) O W)

/-- The right to start copy `j`, once. -/
def ticket (c : Dev nD) (j : Fin 8) : sProp 𝕄 :=
  iprop(dutyTok ER (sndCell c j) 0 false ∗ dutyTok ER (rcvCell (peer j c) j) 0 false)
/-- The right to wait, once, for the `N` units of one of the device's own copy semaphores. -/
def turn (c : Dev nD) (k : OKey) : sProp 𝕄 :=
  iprop(atPos ER (kcell (c, .inr k)) 0 ∅ 0 ∗ cred (tallyAt (kcell (c, .inr k)) () N))
/-- What such a wait pays. -/
def keyPay (c : Dev nD) : OKey → sProp 𝕄 := fun | .inl j => sndPay X c j | .inr j => rcvPay X c j

/-! ## Waiting -/

theorem key_expect (c : Dev nD) (k : OKey) : (Rd X).expect (kcell (c, .inr k)) 0 = N :=
  match k with | .inl j => expect_snd X c j | .inr j => expect_rcv X c j
theorem key_rest (c : Dev nD) (k : OKey) :
    bigSep ((Rd X).duties (kcell (c, .inr k)) 0 \ ∅) (fun d => (Rd X).payload (kcell (c, .inr k)) 0 d) = keyPay X c k :=
  match k with | .inl j => rest_snd X c j | .inr j => rest_rcv X c j

/-- A wait on one of the device's own copy semaphores: it pays what the copy pays, and the semaphore is back at zero. -/
theorem wait_ok (c : Dev nD) (k : OKey) (l : List (Fin 8)) (q : DmaSem sig) (hq : SemLoc.dma q = osem k)
    {s s' : Shape} {e e' : EltTy} (src : Memref sig .tc .vmem s' e') (dst : Memref sig .tc .vmem s e)
    (hsrc : src.view.WordExact) (hdst : dst.view.WordExact) (hN : dst.view.dmaCredit = N)
    (hl : ∀ j ∈ l, lv ((c : Thread nD τ), osem k) () < if j.val < 4 then 2 else 3) (Q : PUnit → sProp 𝕄) :
    iprop(records X K ∗ levAts L lv ∗ turn (F := F) c k ∗ held (F := F) c (dues c l)
        ∗ ((semVal (kcell (c, .inr k)) 0 ∗ keyPay X c k ∗ held (F := F) c (dues c l)) -∗ Q ⟨⟩))
      ⊢ wp frame (wpE (defs₀ (F := F)) 𝒱₀ (c : Thread nD τ) none) Set.univ (Prog.lift (.waitDma2 q src dst hsrc hdst)) Q := by
  unfold turn held
  iintro ⟨#HR, #Hlev, ⟨Hat, Hc⟩, ⟨%W, HO⟩, HQ⟩
  simp only [Prog.lift]
  iapply (Rounds.wp_wait_rest_token 𝒱₀ ER (Rd X) (c : Thread nD τ) none (κ := K (c, .inr k))
      (fun Kt => (wpE_waitDma2_eq 𝒱₀ (c : Thread nD τ) none Set.univ Kt).trans (by rw [hq, hN])) (Set.mem_univ _) () (O := dues c l) (W := W) (R := 0) (m := 0) (T := ∅)
      (by rw [Nat.zero_add]; exact (key_expect X c k).symm)) $$ [Hc HO Hat]
  · isplitr; · iapply (inv_at X K (c, .inr k)); iexact HR
    isplitl [Hc]; · iexact Hc
    isplitl [HO]; · iexact HO
    isplitr; · iapply (mayWait_dues c (osem k) _ l (Nat.le_refl _) hl); iexact Hlev
    iexact Hat
  iintro ⟨HO, Hat, -, Hpay⟩
  ihave Hp := (Entails.of_eq (key_rest X c k)) $$ Hpay
  imod (Rounds.cell_close ER (Rd X) (Set.mem_univ (K (c, .inr k))) (fun h => h) (R := 0 + 1) (duties_later X (kcell (c, .inr k)))) $$ [Hat] with Hz
  · isplitr; · iapply (inv_at X K (c, .inr k)); iexact HR
    iexact Hat
  rw [wp_ret]; imodintro
  iapply HQ
  isplitl [Hz]; · iexact Hz
  isplitl [Hp]; · iexact Hp
  iexists _; iexact HO

/-- Waiting for a first-phase copy, owing only second-phase ones: it pays what landed. -/
theorem waitX_ok (c : Dev nD) (k : Fin 4) (l : List (Fin 8)) (hl : ∀ j ∈ l, 4 ≤ j.val) (Q : PUnit → sProp 𝕄) :
    iprop(records X K ∗ levAts L lv ∗ turn (F := F) c (.inr (lo k)) ∗ held (F := F) c (dues c l)
        ∗ ((semVal (rcvCell c (lo k)) 0 ∗ slotPts c (lo k) (stack (cv X c)) ∗ held (F := F) c (dues c l)) -∗ Q ⟨⟩))
      ⊢ wp frame (wpE (defs₀ (F := F)) 𝒱₀ (c : Thread nD τ) none) Set.univ (waitX k) Q :=
  wait_ok X K c (.inr (lo k)) l (rcvS (lo k)) rfl (xC k) (slot (lo k)) _ _ (credit_slot _)
    (fun j hj => by
      have h : lv (rcvCell c (lo k)) () = 2 := (lv_rcv c (lo k)).trans (if_pos k.isLt)
      rw [show ((c : Thread nD τ), osem (.inr (lo k))) = rcvCell c (lo k) from rfl, h, if_neg (Nat.not_lt.mpr (hl j hj))]; decide) Q
/-- Waiting for a second-phase copy, owing nothing: it pays what landed. -/
theorem waitP_ok (c : Dev nD) (k : Fin 4) (Q : PUnit → sProp 𝕄) :
    iprop(records X K ∗ levAts L lv ∗ turn (F := F) c (.inr (hi k)) ∗ held (F := F) c (dues c [])
        ∗ ((semVal (rcvCell c (hi k)) 0 ∗ slotPts c (hi k) (stack (cv X c)) ∗ held (F := F) c (dues c [])) -∗ Q ⟨⟩))
      ⊢ wp frame (wpE (defs₀ (F := F)) 𝒱₀ (c : Thread nD τ) none) Set.univ (waitP k) Q :=
  wait_ok X K c (.inr (hi k)) [] (rcvS (hi k)) rfl (part k) (slot (hi k)) _ _ (credit_slot _) (fun _ hj => absurd hj List.not_mem_nil) Q
/-- Waiting until a first-phase copy has read its source: the lent half of the chunk is back. -/
theorem doneX_ok (c : Dev nD) (k : Fin 4) (Q : PUnit → sProp 𝕄) :
    iprop(records X K ∗ levAts L lv ∗ turn (F := F) c (.inl (lo k)) ∗ held (F := F) c (dues c [])
        ∗ ((semVal (sndCell c (lo k)) 0 ∗ xPts fullShare.right c k (X c) ∗ held (F := F) c (dues c [])) -∗ Q ⟨⟩))
      ⊢ wp frame (wpE (defs₀ (F := F)) 𝒱₀ (c : Thread nD τ) none) Set.univ (doneX k) Q := by
  rw [← sndPay_lo X c k]
  exact wait_ok X K c (.inl (lo k)) [] (sndS (lo k)) rfl (slot (lo k)) (xC k) _ _ (credit_xC _) (fun _ hj => absurd hj List.not_mem_nil) Q
/-- Waiting until a second-phase copy has read its source: the lent half of the partial sum is back. -/
theorem doneP_ok (c : Dev nD) (k : Fin 4) (Q : PUnit → sProp 𝕄) :
    iprop(records X K ∗ levAts L lv ∗ turn (F := F) c (.inl (hi k)) ∗ held (F := F) c (dues c [])
        ∗ ((semVal (sndCell c (hi k)) 0 ∗ partPts fullShare.right c k (stack (sv X c)) ∗ held (F := F) c (dues c [])) -∗ Q ⟨⟩))
      ⊢ wp frame (wpE (defs₀ (F := F)) 𝒱₀ (c : Thread nD τ) none) Set.univ (doneP k) Q := by
  rw [← sndPay_hi X c k]
  exact wait_ok X K c (.inl (hi k)) [] (sndS (hi k)) rfl (slot (hi k)) (part k) _ _ (credit_part _) (fun _ hj => absurd hj List.not_mem_nil) Q

end Cert.KernelIdeal.Own

end
-- ==== Proof.Ideal.Copies.lean ====
/-
# Telling the peers, and starting the copies

The two signals a device sends, its wait for its peers' signals, and the start of a copy in each phase. A copy needs the
right to start it, the target's landing slot, and the lent half of its source; in return the device may wait for it.
-/
module

public import proofs.«01_k».proof.Proof.Ideal.Moves

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x256 .f32) (K : Dev nD × Key → ℕ)

/-! ## The barrier -/

/-- A signal to the peer across axis `b` hands it the landing slots it will write. -/
theorem signal_ok (c n : Dev nD) (b : Bool) (hn : n = pr b c) (O : CellTallies nD τ sig Unit) (Q : PUnit → sProp 𝕄) :
    iprop(records X K ∗ dutyTok ER (barCell (pr b c)) 0 b ∗ barPay (F := F) (pr b c) b
        ∗ held (F := F) c (O + tallyAt (barCell (pr b c)) () 1) ∗ (held (F := F) c O -∗ Q ⟨⟩))
      ⊢ wp frame (wpE (defs₀ (F := F)) 𝒱₀ (c : Thread nD τ) none) Set.univ (semSignalWord n barS 1#32) Q := by
  subst hn
  unfold held
  simp only [semSignalWord, Prog.lift, Prog.bind_op, Prog.bind_ret, Prog.pure_eq_ret]
  iintro ⟨#HR, Ht, Hp, ⟨%W, HO⟩, HQ⟩
  iapply (Rounds.wp_signal 𝒱₀ ER (Rd X) (c : Thread nD τ) none (dst := (pr b c : Thread nD τ)) (κ := K (pr b c, .inl ()))
      (d := b) (by rw [duties_bar]; exact Finset.mem_univ _) ((amount_bar X (pr b c) b).trans (by decide)) () O rfl)
    $$ [HO Ht Hp]
  · isplitr; · iapply (inv_at X K (pr b c, .inl ())); iexact HR
    isplitl [HO]; · iexact HO
    isplitl [Ht]; · iexact Ht
    isplitl [Hp]; · rw [payload_bar]; iexact Hp
    iapply (reached_at X K (pr b c, .inl ())); iexact HR
  iintro HO
  rw [wp_ret]; imodintro
  iapply HQ; iexists _; iexact HO

/-- After waiting for both signals a device holds all the landing slots its copies go to. -/
theorem barrier_ok (c : Dev nD) (Q : PUnit → sProp 𝕄) :
    iprop(records X K ∗ levAts L lv ∗ atPos ER (barCell c) 0 ∅ 0 ∗ cred (tallyAt (barCell c) () 2) ∗ held (F := F) c (dues c copies)
        ∗ ((semVal (barCell c) 0 ∗ (bigSep Finset.univ fun j : Fin 8 => iprop(∃ f, slotPts (F := F) (peer j c) j f)) ∗ held (F := F) c (dues c copies)) -∗ Q ⟨⟩))
      ⊢ wp frame (wpE (defs₀ (F := F)) 𝒱₀ (c : Thread nD τ) none) Set.univ (semWaitWord barS 2#32) Q := by
  unfold held
  simp only [semWaitWord, Prog.lift, Prog.bind_op, Prog.bind_ret, Prog.pure_eq_ret]
  iintro ⟨#HR, #Hlev, Hat, Hc, ⟨%W, HO⟩, HQ⟩
  iapply (Rounds.wp_wait_rest_token 𝒱₀ ER (Rd X) (c : Thread nD τ) none (κ := K (c, .inl ()))
      (wpE_semWait_eq 𝒱₀ (c : Thread nD τ) none Set.univ) (Set.mem_univ _) () (O := dues c copies) (W := W) (R := 0) (m := 0) (T := ∅)
      (by rw [expect_bar]; decide)) $$ [Hc HO Hat]
  · isplitr; · iapply (inv_at X K (c, .inl ())); iexact HR
    isplitl [Hc]; · iexact Hc
    isplitl [HO]; · iexact HO
    isplitr
    · iapply (mayWait_dues c (.reg barS) 1 copies (Nat.le_of_eq (lv_bar c)) (by decide)); iexact Hlev
    iexact Hat
  iintro ⟨HO, Hat, -, Hpay⟩
  ihave Hp := (Entails.of_eq (rest_bar X c)) $$ Hpay
  imod (Rounds.cell_close ER (Rd X) (Set.mem_univ (K (c, .inl ()))) (fun h => h) (R := 0 + 1) (duties_later X (barCell c))) $$ [Hat] with Hz
  · isplitr; · iapply (inv_at X K (c, .inl ())); iexact HR
    iexact Hat
  rw [wp_ret]; imodintro
  iapply HQ
  isplitl [Hz]; · iexact Hz
  isplitl [Hp]; · iexact Hp
  iexists _; iexact HO

/-! ## The copies -/

/-- The start of a copy in general: from a source of the shape of a chunk, held at some share and holding what is to land. -/
theorem copy_ok (c n : Dev nD) (j : Fin 8) (hn : n = peer j c) (src : Memref sig .tc .vmem S128x256 .f32) (q : PosShare TreeShare)
    (f : Buf (Elt F) (src.view.loc (c : Thread nD τ))) (hs : src.view.WordExact) (hd : (slot j).view.WordExact) (hr)
    (hv : src.view.read (Elt F) f = cv X (peer j c) j)
    (hp : (src.view.loc (c : Thread nD τ) ↦[src.view.set]{q} f : sProp 𝕄) = sndPay X c j)
    (O : CellTallies nD τ sig Unit) (Q : PUnit → sProp 𝕄) :
    iprop(records X K ∗ ticket (F := F) c j ∗ (∃ f, slotPts (F := F) (peer j c) j f) ∗ sndPay X c j
        ∗ held (F := F) c (O + due c j) ∗ ((cred (tallyAt (sndCell c j) () N) ∗ held (F := F) c O) -∗ Q ⟨⟩))
      ⊢ wp frame (wpE (defs₀ (F := F)) 𝒱₀ (c : Thread nD τ) none) Set.univ
          (Prog.lift (.enqueueDma src (.remote (Dev.tc n) (slot j) (.dma (sndS j))) (.dma (rcvS j)) hs hd hr)) Q := by
  subst hn
  unfold held ticket
  simp only [Prog.lift]
  rw [← hp]
  iintro ⟨#HR, ⟨Ht1, Ht2⟩, ⟨%fd, Hd⟩, Hs, ⟨%W, HO⟩, HQ⟩
  unfold slotPts
  iapply (Rounds.wp_send_pointsTo 𝒱₀ ER (Rd X) (c : Thread nD τ) none (c' := (peer j c : Thread nD τ)) (src := src)
      (dst := slot j) (sS := .dma (sndS j)) (sem := .dma (rcvS j)) (fs := f) (κ₁ := K (c, .inr (.inl j))) (κ₂ := K (peer j c, .inr (.inr j)))
      (r₁ := 0) (r₂ := 0) (d₁ := false) (d₂ := false) (fd := fd)
      (by rw [duties_snd]; exact Finset.mem_singleton_self _) (by rw [duties_rcv]; exact Finset.mem_singleton_self _)
      () () N (credit_slot j) (amount_snd X c j false) (amount_rcv X (peer j c) j false) O rfl (W := W)
      (by rw [payload_snd, hp])
      (by
        rw [payload_rcv]; unfold rcvPay slotPts
        exact Entails.of_eq (pointsTo_congr (slot_write (cv X (peer j c)) j fd _ hv))))
    $$ [Ht1 Ht2 Hd Hs HO]
  · isplitr; · iapply (inv_at X K (c, .inr (.inl j))); iexact HR
    isplitr; · iapply (inv_at X K (peer j c, .inr (.inr j))); iexact HR
    isplitl [Hs]; · iexact Hs
    isplitl [Hd]; · iexact Hd
    isplitl [HO]; · iexact HO
    isplitl [Ht1]; · iexact Ht1
    isplitr; · iapply (reached_at X K (c, .inr (.inl j))); iexact HR
    isplitl [Ht2]; · iexact Ht2
    iapply (reached_at X K (peer j c, .inr (.inr j))); iexact HR
  iintro ⟨Hc, HO⟩
  rw [wp_ret]; imodintro
  iapply HQ
  isplitl [Hc]; · iexact Hc
  iexists _; iexact HO

/-- First phase: the copy of chunk `k` of the block. -/
theorem sendX_ok (c n : Dev nD) (k : Fin 4) (hn : n = peer (lo k) c) (O : CellTallies nD τ sig Unit) (Q : PUnit → sProp 𝕄) :
    iprop(records X K ∗ ticket (F := F) c (lo k) ∗ (∃ f, slotPts (F := F) (peer (lo k) c) (lo k) f) ∗ sndPay X c (lo k)
        ∗ held (F := F) c (O + due c (lo k)) ∗ ((cred (tallyAt (sndCell c (lo k)) () N) ∗ held (F := F) c O) -∗ Q ⟨⟩))
      ⊢ wp frame (wpE (defs₀ (F := F)) 𝒱₀ (c : Thread nD τ) none) Set.univ (sendX k n) Q :=
  copy_ok X K c n (lo k) hn (xC k) fullShare.right (X c) _ _ _ (by rw [cv_lo, peer_peer]; rfl) (sndPay_lo X c k).symm O Q

/-- Second phase: the copy of the `k`-th partial sum. -/
theorem sendP_ok (c n : Dev nD) (k : Fin 4) (hn : n = peer (hi k) c) (O : CellTallies nD τ sig Unit) (Q : PUnit → sProp 𝕄) :
    iprop(records X K ∗ ticket (F := F) c (hi k) ∗ (∃ f, slotPts (F := F) (peer (hi k) c) (hi k) f) ∗ sndPay X c (hi k)
        ∗ held (F := F) c (O + due c (hi k)) ∗ ((cred (tallyAt (sndCell c (hi k)) () N) ∗ held (F := F) c O) -∗ Q ⟨⟩))
      ⊢ wp frame (wpE (defs₀ (F := F)) 𝒱₀ (c : Thread nD τ) none) Set.univ (sendP k n) Q :=
  copy_ok X K c n (hi k) hn (part k) fullShare.right (stack (sv X c)) _ _ _ (by rw [cv_hi, peer_peer]; exact part_read (sv X c) k)
    (sndPay_hi X c k).symm O Q

end Cert.KernelIdeal.Own

end
-- ==== Proof.Ideal.Arith.lean ====
/-
# The arithmetic of one chunk

The two computing steps: adding the landed chunk to the device's own, and the activation of the total. What each stores
is the value named in the module on the buffers' contents.
-/
module

public import proofs.«01_k».proof.Proof.Ideal.Moves

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x256 .f32)

/-- A slab read through its whole buffer is the slab as the copies see it. -/
theorem slot_set (j : Fin 8) : cM.view.setOn (rC j).set = (slot j).view.set :=
  ((View.set_reshape _ _).trans (View.set_slice _ _)).symm
theorem part_set (k : Fin 4) : pM.view.setOn (rP k).set = (part k).view.set :=
  ((View.set_reshape _ _).trans (View.set_slice _ _)).symm
theorem part_acc (k : Fin 4) : (pM.access (rP k)).set = (part k).view.set := (View.set_reshape _ _).symm
theorem x_set (k : Fin 4) : xM.view.setOn (rX k).set = (xC k).view.set := (View.set_slice _ _).symm
theorem out_set (k : Fin 4) : oM.view.setOn (rX k).set = (oM.access (rX k)).set := (View.set_slice _ _).symm

/-- The first phase's sum of chunk `k`. -/
theorem addStep_ok (c : Dev nD) (k : Fin 4) (Q : PUnit → sProp 𝕄) :
    iprop(xPts fullShare.left c k (X c) ∗ slotPts c (lo k) (stack (cv X c)) ∗ (∃ f, partPts (F := F) fullShare c k f)
        ∗ ((xPts fullShare.left c k (X c) ∗ slotPts c (lo k) (stack (cv X c)) ∗ partPts fullShare c k (stack (sv X c))) -∗ Q ⟨⟩))
      ⊢ wp frame (wpE (defs₀ (F := F)) 𝒱₀ (c : Thread nD τ) none) Set.univ (addStep k) Q := by
  unfold xPts slotPts partPts addStep
  simp only [Prog.lift, Prog.bind_op, Prog.bind_ret]
  iintro ⟨Hx, Hw, ⟨%f, Hp⟩, HQ⟩
  iapply (wp_load 𝒱₀ (c : Thread nD τ) none Set.univ (m := xM) (S := (xC k).view.set) (x_set k).le) $$ [Hx]
  · iexact Hx
  iintro Hx
  iapply (wp_load 𝒱₀ (c : Thread nD τ) none Set.univ (m := cM) (slot_set (lo k)).le) $$ [Hw]
  · iexact Hw
  iintro Hw
  iapply (wp_load 𝒱₀ (c : Thread nD τ) none Set.univ (m := pM) (part_set k).le) $$ [Hp]
  · iexact Hp
  iintro Hp
  iapply (wp_store 𝒱₀ (c : Thread nD τ) none Set.univ (m := pM) (r := rP k) (Mk := Finset.univ) (S := (part k).view.set)
    (part_acc k).le) $$ [Hp]
  · iexact Hp
  iintro Hp
  rw [wp_ret]; imodintro
  iapply HQ
  isplitl [Hx]; · iexact Hx
  isplitl [Hw]; · iexact Hw
  ihave Hp := (Entails.of_eq (pointsTo_congr (part_store (sv X c) k f
    (payA (xM.view.readAt (Elt F) (rX k).toLoadRect (X c)) (cM.view.readAt (Elt F) (rC (lo k)).toLoadRect (stack (cv X c))))
    (by rw [payA_eq, load_slot, cv_lo]; rfl)))) $$ Hp
  iexact Hp

/-- The second phase's activation of the total of chunk `k`. -/
theorem actStep_ok (c : Dev nD) (k : Fin 4) (Q : PUnit → sProp 𝕄) :
    iprop(partPts fullShare.left c k (stack (sv X c)) ∗ slotPts c (hi k) (stack (cv X c)) ∗ (∃ f, outPts (F := F) c k f)
        ∗ ((partPts fullShare.left c k (stack (sv X c)) ∗ slotPts c (hi k) (stack (cv X c)) ∗ outPts c k (bands (av X c))) -∗ Q ⟨⟩))
      ⊢ wp frame (wpE (defs₀ (F := F)) 𝒱₀ (c : Thread nD τ) none) Set.univ (actStep k) Q := by
  unfold slotPts partPts outPts actStep
  simp only [Prog.lift, Prog.bind_op, Prog.bind_ret]
  iintro ⟨Hp, Hw, ⟨%f, Ho⟩, HQ⟩
  iapply (wp_load 𝒱₀ (c : Thread nD τ) none Set.univ (m := pM) (part_set k).le) $$ [Hp]
  · iexact Hp
  iintro Hp
  iapply (wp_load 𝒱₀ (c : Thread nD τ) none Set.univ (m := cM) (slot_set (hi k)).le) $$ [Hw]
  · iexact Hw
  iintro Hw
  iapply (wp_load 𝒱₀ (c : Thread nD τ) none Set.univ (m := oM) (S := (oM.access (rX k)).set) (out_set k).le) $$ [Ho]
  · iexact Ho
  iintro Ho
  iapply (wp_store 𝒱₀ (c : Thread nD τ) none Set.univ (m := oM) (r := rX k) (Mk := Finset.univ) (S := (oM.access (rX k)).set)
    (Finset.Subset.refl _)) $$ [Ho]
  · iexact Ho
  iintro Ho
  rw [wp_ret]; imodintro
  iapply HQ
  isplitl [Hp]; · iexact Hp
  isplitl [Hw]; · iexact Hw
  ihave Ho := (Entails.of_eq (pointsTo_congr (out_store (av X c) k f
    (payB (pM.view.readAt (Elt F) (rP k).toLoadRect (stack (sv X c))) (cM.view.readAt (Elt F) (rC (hi k)).toLoadRect (stack (cv X c))))
    (by rw [payB_eq, load_part, load_slot, cv_hi]; rfl)))) $$ Ho
  iexact Ho

end Cert.KernelIdeal.Own

end
-- ==== Proof.Ideal.Buffers.lean ====
/-
# The buffers, cut into chunks and put together again

Each of the four buffers a device computes with is the disjoint union of its chunks, so holding it whole is holding all
its chunks.
-/
module

public import proofs.«01_k».proof.Proof.Ideal.Protocol

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The chunks of the block of `x` (and of the output) cover it and do not overlap; so do the slots of a stack. -/
theorem rX_disjoint (k k' : Fin 4) (h : k ≠ k') : Disjoint (rX k).set (rX k').set :=
  Ring.lead_disjoint (s := S512x256) 0 128 (fun k : Fin 4 => ![128 * k.val, 0]) S128x256.size inbX (fun _ => rfl) rfl k k' h
theorem rX_cover : Finset.univ.biUnion (fun k : Fin 4 => (rX k).set) = Finset.univ :=
  Ring.lead_cover (s := S512x256) 0 128 (fun k : Fin 4 => ![128 * k.val, 0]) S128x256.size inbX (fun _ => rfl)
    (fun k a ha => by fin_cases a <;> first | rfl | exact absurd rfl ha) rfl (fun a ha => by fin_cases a <;> first | rfl | exact absurd rfl ha) rfl
theorem rC_disjoint (j j' : Fin 8) (h : j ≠ j') : Disjoint (rC j).set (rC j').set :=
  Ring.lead_disjoint (s := S8x128x256) 0 1 (fun j : Fin 8 => ![j.val, 0, 0]) S1x128x256.size inbC (fun _ => (Nat.one_mul _).symm) rfl j j' h
theorem rC_cover : Finset.univ.biUnion (fun j : Fin 8 => (rC j).set) = Finset.univ :=
  Ring.lead_cover (s := S8x128x256) 0 1 (fun j : Fin 8 => ![j.val, 0, 0]) S1x128x256.size inbC (fun _ => (Nat.one_mul _).symm)
    (fun k a ha => by fin_cases a <;> first | rfl | exact absurd rfl ha) rfl (fun a ha => by fin_cases a <;> first | rfl | exact absurd rfl ha) rfl
theorem rP_disjoint (k k' : Fin 4) (h : k ≠ k') : Disjoint (rP k).set (rP k').set :=
  Ring.lead_disjoint (s := S4x128x256) 0 1 (fun k : Fin 4 => ![k.val, 0, 0]) S1x128x256.size inbP (fun _ => (Nat.one_mul _).symm) rfl k k' h
theorem rP_cover : Finset.univ.biUnion (fun k : Fin 4 => (rP k).set) = Finset.univ :=
  Ring.lead_cover (s := S4x128x256) 0 1 (fun k : Fin 4 => ![k.val, 0, 0]) S1x128x256.size inbP (fun _ => (Nat.one_mul _).symm)
    (fun k a ha => by fin_cases a <;> first | rfl | exact absurd rfl ha) rfl (fun a ha => by fin_cases a <;> first | rfl | exact absurd rfl ha) rfl

/-- The elements of a chunk, a slot, as a set of places of the buffer. -/
theorem xX_set (k : Fin 4) : (xM.access (rX k)).set = (rX k).set := View.set_slice_whole _ _
theorem oX_set (k : Fin 4) : (oM.access (rX k)).set = (rX k).set := View.set_slice_whole _ _
theorem cC_set (j : Fin 8) : (cM.access (rC j)).set = (rC j).set := View.set_slice_whole _ _
theorem pP_set (k : Fin 4) : (pM.access (rP k)).set = (rP k).set := View.set_slice_whole _ _

variable (c : Dev nD)

/-- The block of `x` held whole is its chunks held whole. -/
theorem x_chunks (f : Vec F S512x256 .f32) : (((c : Thread nD τ).loc cc0_stg0_0 ↦{fullShare} f) : sProp 𝕄) = bigSep Finset.univ fun k => xPts fullShare c k f :=
  (Ring.pointsTo_blocks (ℓ := (c : Thread nD τ).loc cc0_stg0_0) (fun k : Fin 4 => (xM.access (rX k)).set)
    (fun k k' h => by rw [xX_set, xX_set]; exact rX_disjoint k k' h) (by simp only [xX_set]; exact rX_cover) f).trans
    (bigSep_congr fun k _ => by unfold xPts; rfl)
/-- So is the output. -/
theorem out_chunks (f : Vec F S512x256 .f32) : (((c : Thread nD τ).loc cc0_stg1_0 ↦{fullShare} f) : sProp 𝕄) = bigSep Finset.univ fun k => outPts c k f := by
  unfold outPts
  exact Ring.pointsTo_blocks (ℓ := (c : Thread nD τ).loc cc0_stg1_0) (fun k : Fin 4 => (oM.access (rX k)).set)
    (fun k k' h => by rw [oX_set, oX_set]; exact rX_disjoint k k' h) (by simp only [oX_set]; exact rX_cover) f
/-- So are the landing slots and the partial sums. -/
theorem slot_chunks (f : Vec F S8x128x256 .f32) : (((c : Thread nD τ).loc cc0_scratch0 ↦{fullShare} f) : sProp 𝕄) = bigSep Finset.univ fun j => slotPts c j f :=
  (Ring.pointsTo_blocks (ℓ := (c : Thread nD τ).loc cc0_scratch0) (fun j : Fin 8 => (cM.access (rC j)).set)
    (fun k k' h => by rw [cC_set, cC_set]; exact rC_disjoint k k' h) (by simp only [cC_set]; exact rC_cover) f).trans
    (bigSep_congr fun j _ => by
      unfold slotPts
      exact congrArg (fun S => ((c : Thread nD τ).loc cc0_scratch0 ↦[S]{fullShare} f : sProp 𝕄)) (View.set_reshape (cM.access (rC j)) _).symm)
theorem part_chunks (f : Vec F S4x128x256 .f32) : (((c : Thread nD τ).loc cc0_scratch1 ↦{fullShare} f) : sProp 𝕄) = bigSep Finset.univ fun k => partPts fullShare c k f :=
  (Ring.pointsTo_blocks (ℓ := (c : Thread nD τ).loc cc0_scratch1) (fun k : Fin 4 => (pM.access (rP k)).set)
    (fun k k' h => by rw [pP_set, pP_set]; exact rP_disjoint k k' h) (by simp only [pP_set]; exact rP_cover) f).trans
    (bigSep_congr fun k _ => by
      unfold partPts
      exact congrArg (fun S => ((c : Thread nD τ).loc cc0_scratch1 ↦[S]{fullShare} f : sProp 𝕄)) (View.set_reshape (pM.access (rP k)) _).symm)

/-- A chunk held whole is its two halves. -/
theorem x_halves (k : Fin 4) (f : Vec F S512x256 .f32) : (xPts fullShare c k f : sProp 𝕄) = iprop(xPts fullShare.left c k f ∗ xPts fullShare.right c k f) := by
  unfold xPts; exact BI.Entails.antisymm (pointsTo_share (PosShare.mem_left_op_right _)).1 (pointsTo_share (PosShare.mem_left_op_right _)).2
theorem part_halves (k : Fin 4) (f : Vec F S4x128x256 .f32) : (partPts fullShare c k f : sProp 𝕄) = iprop(partPts fullShare.left c k f ∗ partPts fullShare.right c k f) := by
  unfold partPts; exact BI.Entails.antisymm (pointsTo_share (PosShare.mem_left_op_right _)).1 (pointsTo_share (PosShare.mem_left_op_right _)).2

/-- What holds of the eight slots holds of the first-phase ones and of the second-phase ones. -/
theorem bigSep_phases (Φ : Fin 8 → sProp 𝕄) : bigSep Finset.univ Φ = bigSep Finset.univ fun k : Fin 4 => iprop(Φ (lo k) ∗ Φ (hi k)) := by
  rw [bigSep_univ_equiv (finSumFinEquiv : Fin 4 ⊕ Fin 4 ≃ Fin 8), bigSep_univ_sum, bigSep_sep']
  rfl

end Cert.KernelIdeal.Own

end
-- ==== Proof.Ideal.Stages.lean ====
/-
# A device's run, stage by stage

What a device holds is told chunk by chunk. For each chunk there are six stages: before anything (0), its block's chunk
sent (1), summed with the first peer's and the partial sum sent (2), the activation stored (3), the first copy's source
back (4), and the second's (5). A step of the kernel moves one chunk one stage on and leaves the other chunks alone, so
the run is told by how far each chunk has come.
-/
module

public import proofs.«01_k».proof.Proof.Ideal.Copies
public import proofs.«01_k».proof.Proof.Ideal.Arith
public import proofs.«01_k».proof.Proof.Ideal.Buffers

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x256 .f32) (K : Dev nD × Key → ℕ)

/-- What every step may use and none uses up. -/
def know : sProp 𝕄 := iprop(records X K ∗ levAts L lv)

/-- On device `c`, owing `O`: the program `p` takes `A` to `B` and leaves `O'` owed. -/
def Runs (c : Dev nD) (O O' : CellTallies nD τ sig Unit) (p : Step F) (A B : sProp 𝕄) : Prop :=
  ∀ Q : PUnit → sProp 𝕄, iprop(know X K ∗ A ∗ held (F := F) c O ∗ ((B ∗ held (F := F) c O') -∗ Q ⟨⟩))
    ⊢ wp frame (wpE (defs₀ (F := F)) 𝒱₀ (c : Thread nD τ) none) Set.univ p Q

instance know_persistent : BI.Persistent (know X K) := by unfold know; infer_instance

section Combine
variable {X K}
variable {c : Dev nD} {O O' O'' : CellTallies nD τ sig Unit} {p q : Step F} {A B C R : sProp (MT nD τ sig Unit (Elt F) ℕ UU ℕ)}

/-- One program after another. -/
theorem Runs.seq (h : Runs X K c O O' p A B) (h' : Runs X K c O' O'' q B C) : Runs X K c O O'' (p >>= fun _ => q) A C := fun Q => by
  rw [wp_bind]
  iintro ⟨#Hk, HA, HO, HQ⟩
  iapply (h _)
  isplitr; · iexact Hk
  isplitl [HA]; · iexact HA
  isplitl [HO]; · iexact HO
  iintro ⟨HB, HO⟩
  iapply (h' Q)
  isplitr; · iexact Hk
  isplitl [HB]; · iexact HB
  isplitl [HO]; · iexact HO
  iexact HQ

/-- What a program does not touch stays. -/
theorem Runs.beside (h : Runs X K c O O' p A B) : Runs X K c O O' p iprop(A ∗ R) iprop(B ∗ R) := fun Q => by
  iintro ⟨#Hk, ⟨HA, HR⟩, HO, HQ⟩
  iapply (h Q)
  isplitr; · iexact Hk
  isplitl [HA]; · iexact HA
  isplitl [HO]; · iexact HO
  iintro ⟨HB, HO⟩
  iapply HQ
  isplitr [HO]
  · isplitl [HB] <;> iassumption
  iexact HO

end Combine

/-! ## The stages -/

/-- Copy `j` not yet started: the right to start it, the place on the sending semaphore, the target's landing slot. -/
def idle (c : Dev nD) (j : Fin 8) : sProp 𝕄 :=
  iprop(ticket (F := F) c j ∗ atPos ER (sndCell c j) 0 ∅ 0 ∗ ∃ f, slotPts (F := F) (peer j c) j f)
/-- Copy `j` landed. -/
def landed (c : Dev nD) (j : Fin 8) : sProp 𝕄 := iprop(semVal (rcvCell c j) 0 ∗ slotPts c j (stack (cv X c)))
/-- Copy `j`'s source back. -/
def back (c : Dev nD) (j : Fin 8) : sProp 𝕄 := iprop(semVal (sndCell c j) 0 ∗ sndPay X c j)
abbrev xHalf (c : Dev nD) (k : Fin 4) : sProp 𝕄 := xPts fullShare.left c k (X c)
abbrev pHalf (c : Dev nD) (k : Fin 4) : sProp 𝕄 := partPts fullShare.left c k (stack (sv X c))
abbrev done (c : Dev nD) (k : Fin 4) : sProp 𝕄 := outPts c k (bands (av X c))

/-- Chunk `k` of device `c`: nothing done yet. -/
def chunkReady (c : Dev nD) (k : Fin 4) : sProp 𝕄 :=
  iprop(turn (F := F) c (.inr (lo k)) ∗ turn (F := F) c (.inr (hi k)) ∗ idle (F := F) c (lo k) ∗ idle (F := F) c (hi k)
      ∗ xHalf X c k ∗ sndPay X c (lo k) ∗ (∃ f, partPts (F := F) fullShare c k f) ∗ ∃ f, outPts (F := F) c k f)
/-- Chunk `k` of device `c`: its first copy started. -/
def chunkSent (c : Dev nD) (k : Fin 4) : sProp 𝕄 :=
  iprop(turn (F := F) c (.inr (lo k)) ∗ turn (F := F) c (.inr (hi k)) ∗ turn (F := F) c (.inl (lo k)) ∗ idle (F := F) c (hi k)
      ∗ xHalf X c k ∗ (∃ f, partPts (F := F) fullShare c k f) ∗ ∃ f, outPts (F := F) c k f)
/-- Chunk `k` of device `c`: summed, its second copy started. -/
def chunkSummed (c : Dev nD) (k : Fin 4) : sProp 𝕄 :=
  iprop(landed X c (lo k) ∗ turn (F := F) c (.inr (hi k)) ∗ turn (F := F) c (.inl (lo k)) ∗ turn (F := F) c (.inl (hi k))
      ∗ xHalf X c k ∗ pHalf X c k ∗ ∃ f, outPts (F := F) c k f)
/-- Chunk `k` of device `c`: the activation stored. -/
def chunkStored (c : Dev nD) (k : Fin 4) : sProp 𝕄 :=
  iprop(landed X c (lo k) ∗ landed X c (hi k) ∗ turn (F := F) c (.inl (lo k)) ∗ turn (F := F) c (.inl (hi k))
      ∗ xHalf X c k ∗ pHalf X c k ∗ done X c k)
/-- Chunk `k` of device `c`: its first source back. -/
def chunkBack (c : Dev nD) (k : Fin 4) : sProp 𝕄 :=
  iprop(landed X c (lo k) ∗ landed X c (hi k) ∗ back X c (lo k) ∗ turn (F := F) c (.inl (hi k))
      ∗ xHalf X c k ∗ pHalf X c k ∗ done X c k)
/-- Chunk `k` of device `c`: its second source back. -/
def chunkOver (c : Dev nD) (k : Fin 4) : sProp 𝕄 :=
  iprop(landed X c (lo k) ∗ landed X c (hi k) ∗ back X c (lo k) ∗ back X c (hi k)
      ∗ xHalf X c k ∗ pHalf X c k ∗ done X c k)
/-- What device `c` holds for chunk `k` at each stage. -/
def stage (c : Dev nD) (k : Fin 4) : ℕ → sProp 𝕄
  | 0 => chunkReady X c k
  | 1 => chunkSent X c k
  | 2 => chunkSummed X c k
  | 3 => chunkStored X c k
  | 4 => chunkBack X c k
  | _ => chunkOver X c k

section Steps
variable (c : Dev nD) (k : Fin 4)

theorem stage_sendX (n : Dev nD) (hn : n = peer (lo k) c) (O : CellTallies nD τ sig Unit) :
    Runs X K c (O + due c (lo k)) O (sendX k n) (chunkReady X c k) (chunkSent X c k) := fun Q => by
  unfold know chunkReady chunkSent idle
  iintro ⟨⟨#HR, #Hlev⟩, ⟨Hr1, Hr2, ⟨Ht, Ha, Hs⟩, Hi, Hx, Hp, Hq, Ho⟩, HO, HQ⟩
  iapply (sendX_ok X K c n k hn O Q)
  isplitr; · iexact HR
  isplitl [Ht]; · iexact Ht
  isplitl [Hs]; · iexact Hs
  isplitl [Hp]; · iexact Hp
  isplitl [HO]; · iexact HO
  iintro ⟨Hc, HO⟩
  iapply HQ
  isplitr [HO]
  · isplitl [Hr1]; · iexact Hr1
    isplitl [Hr2]; · iexact Hr2
    isplitl [Ha Hc]
    · unfold turn; isplitl [Ha]; · iexact Ha
      iexact Hc
    isplitl [Hi]; · iexact Hi
    isplitl [Hx]; · iexact Hx
    isplitl [Hq]; · iexact Hq
    iexact Ho
  iexact HO

theorem stage_phase1 (n : Dev nD) (hn : n = peer (hi k) c) (l : List (Fin 8)) (hl : ∀ j ∈ l, 4 ≤ j.val) :
    Runs X K c (dues c (hi k :: l)) (dues c l) (phase1 k n) (chunkSent X c k) (chunkSummed X c k) := fun Q => by
  unfold know chunkSent chunkSummed idle phase1
  iintro ⟨⟨#HR, #Hlev⟩, ⟨Hr1, Hr2, Ht1, ⟨Ht, Ha, Hs⟩, Hx, Hq, Ho⟩, HO, HQ⟩
  rw [wp_bind]
  iapply (waitX_ok X K c k (hi k :: l) (fun j hj => by
    rcases List.mem_cons.mp hj with rfl | h
    · exact Nat.le_add_right 4 k.val
    · exact hl j h) _)
  isplitr; · iexact HR
  isplitr; · iexact Hlev
  isplitl [Hr1]; · iexact Hr1
  isplitl [HO]; · iexact HO
  iintro ⟨Hz, Hw, HO⟩
  rw [wp_bind]
  iapply (addStep_ok X c k _)
  isplitl [Hx]; · iexact Hx
  isplitl [Hw]; · iexact Hw
  isplitl [Hq]; · iexact Hq
  iintro ⟨Hx, Hw, Hq⟩
  ihave Hq := (Entails.of_eq (part_halves c k (stack (sv X c)))) $$ Hq
  icases Hq with ⟨Hql, Hqr⟩
  iapply (sendP_ok X K c n k hn (dues c l) Q)
  isplitr; · iexact HR
  isplitl [Ht]; · iexact Ht
  isplitl [Hs]; · iexact Hs
  isplitl [Hqr]; · rw [sndPay_hi]; iexact Hqr
  isplitl [HO]; · iexact HO
  iintro ⟨Hc, HO⟩
  iapply HQ
  isplitr [HO]
  · isplitl [Hz Hw]
    · unfold landed; isplitl [Hz]; · iexact Hz
      iexact Hw
    isplitl [Hr2]; · iexact Hr2
    isplitl [Ht1]; · iexact Ht1
    isplitl [Ha Hc]
    · unfold turn; isplitl [Ha]; · iexact Ha
      iexact Hc
    isplitl [Hx]; · iexact Hx
    isplitl [Hql]; · iexact Hql
    iexact Ho
  iexact HO

theorem stage_phase2 : Runs X K c (dues c []) (dues c []) (phase2 k) (chunkSummed X c k) (chunkStored X c k) := fun Q => by
  unfold know chunkSummed chunkStored phase2
  iintro ⟨⟨#HR, #Hlev⟩, ⟨Hl, Hr2, Ht1, Ht2, Hx, Hq, Ho⟩, HO, HQ⟩
  rw [wp_bind]
  iapply (waitP_ok X K c k _)
  isplitr; · iexact HR
  isplitr; · iexact Hlev
  isplitl [Hr2]; · iexact Hr2
  isplitl [HO]; · iexact HO
  iintro ⟨Hz, Hw, HO⟩
  iapply (actStep_ok X c k _)
  isplitl [Hq]; · iexact Hq
  isplitl [Hw]; · iexact Hw
  isplitl [Ho]; · iexact Ho
  iintro ⟨Hq, Hw, Ho⟩
  iapply HQ
  isplitr [HO]
  · isplitl [Hl]; · iexact Hl
    isplitl [Hz Hw]
    · unfold landed; isplitl [Hz]; · iexact Hz
      iexact Hw
    isplitl [Ht1]; · iexact Ht1
    isplitl [Ht2]; · iexact Ht2
    isplitl [Hx]; · iexact Hx
    isplitl [Hq]; · iexact Hq
    iexact Ho
  iexact HO

theorem stage_doneX : Runs X K c (dues c []) (dues c []) (doneX k) (chunkStored X c k) (chunkBack X c k) := fun Q => by
  unfold know chunkStored chunkBack
  iintro ⟨⟨#HR, #Hlev⟩, ⟨Hl, Hl', Ht1, Ht2, Hx, Hq, Ho⟩, HO, HQ⟩
  iapply (doneX_ok X K c k Q)
  isplitr; · iexact HR
  isplitr; · iexact Hlev
  isplitl [Ht1]; · iexact Ht1
  isplitl [HO]; · iexact HO
  iintro ⟨Hz, Hs, HO⟩
  iapply HQ
  isplitr [HO]
  · isplitl [Hl]; · iexact Hl
    isplitl [Hl']; · iexact Hl'
    isplitl [Hz Hs]
    · unfold back; rw [sndPay_lo]; isplitl [Hz]; · iexact Hz
      iexact Hs
    isplitl [Ht2]; · iexact Ht2
    isplitl [Hx]; · iexact Hx
    isplitl [Hq]; · iexact Hq
    iexact Ho
  iexact HO

theorem stage_doneP : Runs X K c (dues c []) (dues c []) (doneP k) (chunkBack X c k) (chunkOver X c k) := fun Q => by
  unfold know chunkBack chunkOver
  iintro ⟨⟨#HR, #Hlev⟩, ⟨Hl, Hl', Hb, Ht2, Hx, Hq, Ho⟩, HO, HQ⟩
  iapply (doneP_ok X K c k Q)
  isplitr; · iexact HR
  isplitr; · iexact Hlev
  isplitl [Ht2]; · iexact Ht2
  isplitl [HO]; · iexact HO
  iintro ⟨Hz, Hs, HO⟩
  iapply HQ
  isplitr [HO]
  · isplitl [Hl]; · iexact Hl
    isplitl [Hl']; · iexact Hl'
    isplitl [Hb]; · iexact Hb
    isplitl [Hz Hs]
    · unfold back; rw [sndPay_hi]; isplitl [Hz]; · iexact Hz
      iexact Hs
    isplitl [Hx]; · iexact Hx
    isplitl [Hq]; · iexact Hq
    iexact Ho
  iexact HO

end Steps

/-! ## All chunks together -/

/-- All that device `c` holds when chunk `k` has come to stage `m k`. -/
def at_ (c : Dev nD) (m : Fin 4 → ℕ) : sProp 𝕄 := bigSep Finset.univ fun k => stage X c k (m k)

/-- A step that moves one chunk on moves the whole on. -/
theorem Runs.chunk {c : Dev nD} {O O' : CellTallies nD τ sig Unit} {p : Step F} {m m' : Fin 4 → ℕ} (k : Fin 4)
    (h : Runs X K c O O' p (stage X c k (m k)) (stage X c k (m' k))) (hm : ∀ i, i ≠ k → m i = m' i) :
    Runs X K c O O' p (at_ X c m) (at_ X c m') := by
  unfold at_
  rw [bigSep_univ_at (fun k => stage X c k (m k)) k, bigSep_univ_at (fun k => stage X c k (m' k)) k,
    bigSep_congr (s := Finset.univ.erase k) (fun i hi => by rw [hm i (Finset.ne_of_mem_erase hi)])]
  exact h.beside

/-- From the barrier on: everything a device does with its chunks. -/
def exchange (d : Dev nD) : Step F := do
  sendX 0 ⟨k0_dev3 d, k0_dev3_lt d⟩
  sendX 1 ⟨k0_dev4 d, k0_dev4_lt d⟩
  sendX 2 ⟨k0_dev5 d, k0_dev5_lt d⟩
  sendX 3 ⟨k0_dev6 d, k0_dev6_lt d⟩
  phase1 0 ⟨k0_dev7 d, k0_dev7_lt d⟩
  phase1 2 ⟨k0_dev8 d, k0_dev8_lt d⟩
  phase1 1 ⟨k0_dev9 d, k0_dev9_lt d⟩
  phase1 3 ⟨k0_dev10 d, k0_dev10_lt d⟩
  phase2 0
  phase2 2
  phase2 1
  phase2 3
  doneX 0
  doneX 1
  doneX 2
  doneX 3
  doneP 0
  doneP 2
  doneP 1
  doneP 3

/-- It takes every chunk from the first stage to the last, and pays all that is owed. -/
theorem exchange_ok (c : Dev nD) : Runs X K c (dues c copies) (dues c []) (exchange c) (at_ X c fun _ => 0) (at_ X c fun _ => 5) :=
  .seq (.chunk X K (m' := ![1, 0, 0, 0]) 0 (stage_sendX X K c 0 _ (dev3_eq c) _) (by decide)) <|
  .seq (.chunk X K (m' := ![1, 1, 0, 0]) 1 (stage_sendX X K c 1 _ (dev4_eq c) _) (by decide)) <|
  .seq (.chunk X K (m' := ![1, 1, 1, 0]) 2 (stage_sendX X K c 2 _ (dev5_eq c) _) (by decide)) <|
  .seq (.chunk X K (m' := ![1, 1, 1, 1]) 3 (stage_sendX X K c 3 _ (dev6_eq c) _) (by decide)) <|
  .seq (.chunk X K (m' := ![2, 1, 1, 1]) 0 (stage_phase1 X K c 0 _ (dev7_eq c) [hi 2, hi 1, hi 3] (by decide)) (by decide)) <|
  .seq (.chunk X K (m' := ![2, 1, 2, 1]) 2 (stage_phase1 X K c 2 _ (dev8_eq c) [hi 1, hi 3] (by decide)) (by decide)) <|
  .seq (.chunk X K (m' := ![2, 2, 2, 1]) 1 (stage_phase1 X K c 1 _ (dev9_eq c) [hi 3] (by decide)) (by decide)) <|
  .seq (.chunk X K (m' := ![2, 2, 2, 2]) 3 (stage_phase1 X K c 3 _ (dev10_eq c) [] (by decide)) (by decide)) <|
  .seq (.chunk X K (m' := ![3, 2, 2, 2]) 0 (stage_phase2 X K c 0) (by decide)) <|
  .seq (.chunk X K (m' := ![3, 2, 3, 2]) 2 (stage_phase2 X K c 2) (by decide)) <|
  .seq (.chunk X K (m' := ![3, 3, 3, 2]) 1 (stage_phase2 X K c 1) (by decide)) <|
  .seq (.chunk X K (m' := ![3, 3, 3, 3]) 3 (stage_phase2 X K c 3) (by decide)) <|
  .seq (.chunk X K (m' := ![4, 3, 3, 3]) 0 (stage_doneX X K c 0) (by decide)) <|
  .seq (.chunk X K (m' := ![4, 4, 3, 3]) 1 (stage_doneX X K c 1) (by decide)) <|
  .seq (.chunk X K (m' := ![4, 4, 4, 3]) 2 (stage_doneX X K c 2) (by decide)) <|
  .seq (.chunk X K (m' := ![4, 4, 4, 4]) 3 (stage_doneX X K c 3) (by decide)) <|
  .seq (.chunk X K (m' := ![5, 4, 4, 4]) 0 (stage_doneP X K c 0) (by decide)) <|
  .seq (.chunk X K (m' := ![5, 4, 5, 4]) 2 (stage_doneP X K c 2) (by decide)) <|
  .seq (.chunk X K (m' := ![5, 5, 5, 4]) 1 (stage_doneP X K c 1) (by decide)) <|
  .chunk X K 3 (stage_doneP X K c 3) (by decide)

end Cert.KernelIdeal.Own

end
-- ==== Proof.Ideal.Body.lean ====
/-
# The whole kernel on one device

From what the launch gives a device to what it leaves: the output holds the activations of the totals, the block of `x` is
as it was, and every semaphore is back at zero.
-/
module

public import proofs.«01_k».proof.Proof.Ideal.Stages

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S512x256 .f32) (K : Dev nD × Key → ℕ)

/-! ## What the launch gives -/

/-- The rights device `c` pays with: a signal to each peer, and its eight copies. -/
def payToks (c : Dev nD) : sProp 𝕄 :=
  iprop((bigSep Finset.univ fun b : Bool => dutyTok ER (barCell (pr b c)) 0 b) ∗ bigSep Finset.univ fun j : Fin 8 => ticket (F := F) c j)
/-- Those, and its place on each of its own semaphores. -/
def linear (c : Dev nD) : sProp 𝕄 :=
  iprop((bigSep Finset.univ fun k : Key => atPos ER (kcell (c, k)) 0 ∅ 0) ∗ payToks (F := F) c)
/-- The units device `c` will wait for: two on its barrier, a copy's on each receiving side. -/
def credits (c : Dev nD) : sProp 𝕄 :=
  iprop(cred (tallyAt (barCell c) () 2) ∗ bigSep Finset.univ fun j : Fin 8 => cred (tallyAt (rcvCell c j) () N))
/-- The four buffers before the kernel: `x` holds the block, the others anything. -/
def buffers₀ (c : Dev nD) : sProp 𝕄 :=
  iprop(((c : Thread nD τ).loc cc0_stg0_0 ↦{fullShare} X c) ∗ (∃ f : Vec F S512x256 .f32, (c : Thread nD τ).loc cc0_stg1_0 ↦{fullShare} f)
    ∗ (∃ f : Vec F S8x128x256 .f32, (c : Thread nD τ).loc cc0_scratch0 ↦{fullShare} f) ∗ ∃ f : Vec F S4x128x256 .f32, (c : Thread nD τ).loc cc0_scratch1 ↦{fullShare} f)
/-- After it. -/
def buffers₁ (c : Dev nD) : sProp 𝕄 :=
  iprop(((c : Thread nD τ).loc cc0_stg0_0 ↦{fullShare} X c) ∗ ((c : Thread nD τ).loc cc0_stg1_0 ↦{fullShare} bands (av X c))
    ∗ ((c : Thread nD τ).loc cc0_scratch0 ↦{fullShare} stack (cv X c)) ∗ (c : Thread nD τ).loc cc0_scratch1 ↦{fullShare} stack (sv X c))
/-- The copies' semaphores at zero. -/
def zeros (c : Dev nD) : sProp 𝕄 :=
  iprop((bigSep Finset.univ fun j : Fin 8 => semVal (sndCell c j) 0) ∗ bigSep Finset.univ fun j : Fin 8 => semVal (rcvCell c j) 0)

/-! ## Into chunks -/

/-- Chunk `k` before the peers have signalled: as when ready, without the landing slots the peers hand over. -/
def chunkWaiting (c : Dev nD) (k : Fin 4) : sProp 𝕄 :=
  iprop((turn (F := F) c (.inr (lo k)) ∗ turn (F := F) c (.inr (hi k))) ∗ (ticket (F := F) c (lo k) ∗ ticket (F := F) c (hi k))
    ∗ (atPos ER (sndCell c (lo k)) 0 ∅ 0 ∗ atPos ER (sndCell c (hi k)) 0 ∅ 0) ∗ (xHalf X c k ∗ xPts fullShare.right c k (X c))
    ∗ (∃ f, outPts (F := F) c k f) ∗ ∃ f, partPts (F := F) fullShare c k f)

theorem bool_split (b : Bool) (Φ : Bool → sProp 𝕄) : bigSep Finset.univ Φ = iprop(Φ b ∗ Φ (!b)) :=
  bigSep_univ_eq_bigSepL [b, !b] (by revert b; decide) (by revert b; decide) Φ

/-- The places on the seventeen semaphores. -/
theorem places_split (c : Dev nD) : (bigSep Finset.univ fun k : Key => atPos ER (kcell (c, k)) 0 ∅ 0 : sProp 𝕄)
    ⊢ iprop(atPos ER (barCell c) 0 ∅ 0 ∗ (bigSep Finset.univ fun j : Fin 8 => atPos ER (sndCell c j) 0 ∅ 0)
      ∗ bigSep Finset.univ fun j : Fin 8 => atPos ER (kcell (c, .inr (.inr j))) 0 ∅ 0) := by
  rw [bigSep_univ_sum, bigSep_univ_sum, BI.bigSep_univ_of_subsingleton (i := ())]
  exact Entails.of_eq rfl

/-- What the launch gives, chunk by chunk, with the barrier's part and the device's own landing slots beside. -/
theorem into_chunks (c : Dev nD) : iprop(linear (F := F) c ∗ credits (F := F) c ∗ buffers₀ X c)
    ⊢ iprop((atPos ER (barCell c) 0 ∅ 0 ∗ cred (tallyAt (barCell c) () 2)) ∗ (bigSep Finset.univ fun b : Bool => dutyTok ER (barCell (pr b c)) 0 b)
      ∗ (bigSep Finset.univ fun j : Fin 8 => iprop(∃ f, slotPts (F := F) c j f)) ∗ bigSep Finset.univ fun k => chunkWaiting X c k) := by
  have hw : (bigSep Finset.univ fun k => chunkWaiting X c k)
      = iprop((bigSep Finset.univ fun j : Fin 8 => turn (F := F) c (.inr j)) ∗ (bigSep Finset.univ fun j : Fin 8 => ticket (F := F) c j)
        ∗ (bigSep Finset.univ fun j : Fin 8 => atPos ER (sndCell c j) 0 ∅ 0) ∗ (bigSep Finset.univ fun k : Fin 4 => xPts fullShare c k (X c))
        ∗ (bigSep Finset.univ fun k : Fin 4 => iprop(∃ f, outPts (F := F) c k f)) ∗ bigSep Finset.univ fun k : Fin 4 => iprop(∃ f, partPts (F := F) fullShare c k f)) := by
    unfold chunkWaiting
    rw [bigSep_phases fun j => turn (F := F) c (.inr j), bigSep_phases fun j => ticket (F := F) c j,
      bigSep_phases fun j => (atPos ER (sndCell c j) 0 ∅ 0 : sProp 𝕄), bigSep_congr fun k _ => x_halves c k (X c)]
    simp only [bigSep_sep']
  have ht : (bigSep Finset.univ fun j : Fin 8 => turn (F := F) c (.inr j))
      = iprop((bigSep Finset.univ fun j : Fin 8 => atPos ER (kcell (c, .inr (.inr j))) 0 ∅ 0) ∗ bigSep Finset.univ fun j : Fin 8 => cred (tallyAt (rcvCell c j) () N)) := by
    unfold turn; rw [bigSep_sep']
  rw [hw, ht]
  unfold linear payToks credits buffers₀
  iintro ⟨⟨Hat, Hbt, Htk⟩, ⟨Hcb, Hcr⟩, Hx, ⟨%fo, Ho⟩, ⟨%fc, Hc⟩, %fp, Hp⟩
  ihave Hat := (places_split (F := F) c) $$ Hat
  icases Hat with ⟨Hab, Has, Har⟩
  ihave Hx := (Entails.of_eq (x_chunks c (X c))) $$ Hx
  ihave Ho := ((Entails.of_eq (out_chunks c fo)).trans (bigSep_mono fun k _ => exists_intro (Φ := fun f => outPts (F := F) c k f) fo)) $$ Ho
  ihave Hc := ((Entails.of_eq (slot_chunks c fc)).trans (bigSep_mono fun j _ => exists_intro (Φ := fun f => slotPts (F := F) c j f) fc)) $$ Hc
  ihave Hp := ((Entails.of_eq (part_chunks c fp)).trans (bigSep_mono fun k _ => exists_intro (Φ := fun f => partPts (F := F) fullShare c k f) fp)) $$ Hp
  isplitl [Hab Hcb]; · isplitl [Hab] <;> iassumption
  isplitl [Hbt]; · iexact Hbt
  isplitl [Hc]; · iexact Hc
  isplitl [Har Hcr]; · isplitl [Har] <;> iassumption
  isplitl [Htk]; · iexact Htk
  isplitl [Has]; · iexact Has
  isplitl [Hx]; · iexact Hx
  isplitl [Ho]; · iexact Ho
  iexact Hp

/-- With the landing slots the peers handed over, every chunk is ready. -/
theorem chunks_ready (c : Dev nD) : iprop((bigSep Finset.univ fun j : Fin 8 => iprop(∃ f, slotPts (F := F) (peer j c) j f)) ∗ bigSep Finset.univ fun k => chunkWaiting X c k)
    ⊢ at_ X c fun _ => 0 := by
  rw [bigSep_phases, ← bigSep_sep']
  unfold at_
  refine bigSep_mono fun k _ => show _ ⊢ chunkReady X c k from ?_
  unfold chunkWaiting chunkReady idle
  rw [sndPay_lo]
  iintro ⟨⟨Hs, Hs'⟩, ⟨Hr, Hr'⟩, ⟨Ht, Ht'⟩, ⟨Ha, Ha'⟩, ⟨Hx, Hx'⟩, Ho, Hp⟩
  isplitl [Hr]; · iexact Hr
  isplitl [Hr']; · iexact Hr'
  isplitl [Ht Ha Hs]
  · isplitl [Ht]; · iexact Ht
    isplitl [Ha] <;> iassumption
  isplitl [Ht' Ha' Hs']
  · isplitl [Ht']; · iexact Ht'
    isplitl [Ha'] <;> iassumption
  isplitl [Hx]; · iexact Hx
  isplitl [Hx']; · iexact Hx'
  isplitl [Hp]; · iexact Hp
  iexact Ho

/-! ## Out of chunks -/

/-- When every chunk is over, the buffers are whole again and the copies' semaphores at zero. -/
theorem out_of_chunks (c : Dev nD) : (at_ X c fun _ => 5) ⊢ iprop(zeros (F := F) c ∗ buffers₁ X c) := by
  have h (k : Fin 4) : chunkOver X c k ⊢ iprop((semVal (sndCell c (lo k)) 0 ∗ semVal (sndCell c (hi k)) 0)
      ∗ (semVal (rcvCell c (lo k)) 0 ∗ semVal (rcvCell c (hi k)) 0) ∗ (slotPts c (lo k) (stack (cv X c)) ∗ slotPts c (hi k) (stack (cv X c)))
      ∗ xPts fullShare c k (X c) ∗ partPts fullShare c k (stack (sv X c)) ∗ outPts c k (bands (av X c))) := by
    rw [x_halves, part_halves]
    unfold chunkOver landed back
    rw [sndPay_lo, sndPay_hi]
    iintro ⟨⟨Hv, Hs⟩, ⟨Hv', Hs'⟩, ⟨Hz, Hx'⟩, ⟨Hz', Hp'⟩, Hx, Hp, Ho⟩
    isplitl [Hz Hz']; · isplitl [Hz] <;> iassumption
    isplitl [Hv Hv']; · isplitl [Hv] <;> iassumption
    isplitl [Hs Hs']; · isplitl [Hs] <;> iassumption
    isplitl [Hx Hx']; · isplitl [Hx] <;> iassumption
    isplitl [Hp Hp']; · isplitl [Hp] <;> iassumption
    iexact Ho
  have hb : (bigSep Finset.univ fun k : Fin 4 => iprop((semVal (sndCell c (lo k)) 0 ∗ semVal (sndCell c (hi k)) 0)
      ∗ (semVal (rcvCell c (lo k)) 0 ∗ semVal (rcvCell c (hi k)) 0) ∗ (slotPts c (lo k) (stack (cv X c)) ∗ slotPts c (hi k) (stack (cv X c)))
      ∗ xPts fullShare c k (X c) ∗ partPts fullShare c k (stack (sv X c)) ∗ outPts c k (bands (av X c))) : sProp 𝕄)
      = iprop((bigSep Finset.univ fun j : Fin 8 => semVal (sndCell c j) 0) ∗ (bigSep Finset.univ fun j : Fin 8 => semVal (rcvCell c j) 0)
        ∗ (bigSep Finset.univ fun j : Fin 8 => slotPts c j (stack (cv X c))) ∗ (bigSep Finset.univ fun k : Fin 4 => xPts fullShare c k (X c))
        ∗ (bigSep Finset.univ fun k : Fin 4 => partPts fullShare c k (stack (sv X c))) ∗ bigSep Finset.univ fun k : Fin 4 => outPts c k (bands (av X c))) := by
    rw [bigSep_phases fun j => (semVal (sndCell c j) 0 : sProp 𝕄), bigSep_phases fun j => (semVal (rcvCell c j) 0 : sProp 𝕄),
      bigSep_phases fun j => (slotPts c j (stack (cv X c)) : sProp 𝕄)]
    simp only [bigSep_sep']
  unfold at_
  refine (bigSep_mono fun k _ => h k).trans ((Entails.of_eq hb).trans ?_)
  unfold zeros buffers₁
  rw [x_chunks, out_chunks, slot_chunks, part_chunks]
  iintro ⟨Hz, Hv, Hs, Hx, Hp, Ho⟩
  isplitl [Hz Hv]; · isplitl [Hz] <;> iassumption
  isplitl [Hx]; · iexact Hx
  isplitl [Ho]; · iexact Ho
  isplitl [Hs] <;> iassumption

/-! ## The run -/

/-- The kernel on device `c`. -/
theorem steps_ok (c : Dev nD) : Runs X K c (O₀ c) (dues c []) (steps c) iprop(linear (F := F) c ∗ credits (F := F) c ∗ buffers₀ X c)
    iprop(semVal (barCell c) 0 ∗ zeros (F := F) c ∗ buffers₁ X c) := fun Q => by
  unfold know
  iintro ⟨⟨#HR, #Hlev⟩, Hall, HO, HQ⟩
  ihave Hall := (into_chunks X c) $$ Hall
  icases Hall with ⟨⟨Hat, Hcr⟩, Htok, Hslots, Hch⟩
  ihave Htok := (Entails.of_eq (bool_split (F := F) (ev c) fun b => dutyTok ER (barCell (pr b c)) 0 b)) $$ Htok
  icases Htok with ⟨Ht, Ht'⟩
  ihave Hslots := (Entails.of_eq (slots_split (F := F) c (ev c))) $$ Hslots
  icases Hslots with ⟨Hs, Hs'⟩
  unfold steps O₀
  rw [wp_bind]
  iapply (signal_ok X K c _ (ev c) (dev1_eq c) (dues c copies + tallyAt (barCell (pr (!ev c) c)) () 1) _)
  isplitr; · iexact HR
  isplitl [Ht]; · iexact Ht
  isplitl [Hs]; · iexact Hs
  isplitl [HO]; · iexact HO
  iintro HO
  rw [wp_bind]
  iapply (signal_ok X K c _ (!ev c) (dev2_eq c) (dues c copies) _)
  isplitr; · iexact HR
  isplitl [Ht']; · iexact Ht'
  isplitl [Hs']; · iexact Hs'
  isplitl [HO]; · iexact HO
  iintro HO
  rw [wp_bind]
  iapply (barrier_ok X K c _)
  isplitr; · iexact HR
  isplitr; · iexact Hlev
  isplitl [Hat]; · iexact Hat
  isplitl [Hcr]; · iexact Hcr
  isplitl [HO]; · iexact HO
  iintro ⟨Hz, Hs, HO⟩
  ihave Hch := (chunks_ready X c) $$ [Hs Hch]
  · isplitl [Hs] <;> iassumption
  iapply (exchange_ok X K c Q)
  isplitr
  · unfold know; isplitr; · iexact HR
    iexact Hlev
  isplitl [Hch]; · iexact Hch
  isplitl [HO]; · iexact HO
  iintro ⟨Hch, HO⟩
  ihave Hch := (out_of_chunks X c) $$ Hch
  iapply HQ
  isplitr [HO]
  · isplitl [Hz] <;> iassumption
  iexact HO

end Cert.KernelIdeal.Own

end
-- ==== Proof.Ideal.Point.lean ====
/-
# The kernel as the launch sees it

The launch moves the block of `x` in, runs the kernel once, and moves the output out (`dats`). `body_obligation` is what it
asks of the kernel: from what the device starts with (`start`) to an output that holds the activations of the totals.
-/
module

public import proofs.«01_k».proof.Proof.Ideal.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine before the run: any memory, every counter at zero. -/
def s₀ : MemSt nD τ sig (Elt F) := ⟨m, fun _ => 0, ρ⟩

/-- Device `c`'s block of `x`. -/
def xIn (c : Dev nD) : Vec F S512x256 .f32 := (win0_0.blk (0 : Fin 1)).view.read (Elt F) ((s₀ m ρ).mem ((c : Thread nD τ).loc main_arg0))

/-- What device `c`'s kernel starts with beside its buffers: the records, its rights and places, the units it waits for, and the order of waiting. -/
def start (c : Dev nD) : sProp 𝕄 :=
  iprop((∃ K, records (xIn m ρ) K ∗ linear (F := F) c) ∗ credits (F := F) c ∗ levAts L lv)

def Φ₀ (c : Dev nD) : sProp 𝕄 :=
  iprop(start m ρ c ∗ (∃ f : Vec F S8x128x256 .f32, (c : Thread nD τ).loc cc0_scratch0 ↦{fullShare} f)
    ∗ ∃ f : Vec F S4x128x256 .f32, (c : Thread nD τ).loc cc0_scratch1 ↦{fullShare} f)
/-- What it ends with: every semaphore at zero, and its two scratch buffers. -/
def Φ₁ (c : Dev nD) : sProp 𝕄 :=
  iprop(semVal (barCell c) 0 ∗ zeros (F := F) c ∗ ((c : Thread nD τ).loc cc0_scratch0 ↦{fullShare} stack (cv (xIn m ρ) c))
    ∗ (c : Thread nD τ).loc cc0_scratch1 ↦{fullShare} stack (sv (xIn m ρ) c))

/-- The launch's data: what each window's buffer holds after the kernel, and what a device owes before (`O₀`) and after (nothing). -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => bands (av (xIn m ρ) c)
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_buffer (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ ((c : Thread nD τ).loc b ↦{fullShare} g)) := by
  unfold owns; simp only [Memref.view_whole, View.read_whole, View.set_whole]

/-- A buffer held at contents `f`, as the launch writes it. -/
abbrev stg (c : Dev nD) (b : Ref sig .tc) (f : b.ty.Contents (Elt F)) : sProp 𝕄 :=
  iprop(∃ g : Buf (Elt F) ((c : Thread nD τ).loc b), ⌜g = f⌝ ∗ ((c : Thread nD τ).loc b ↦{fullShare} g))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ ∃ d, stg c cc0_stg1_0 ((dats m ρ 0 c).before (1 : Fin 2) t0_0 d))
def bodyPost (c : Dev nD) : sProp 𝕄 :=
  iprop(Φ₁ m ρ c ∗ (dats m ρ 0 c).owesAt () t0_0.succ ∗ stg c cc0_stg0_0 (xIn m ρ c) ∗ stg c cc0_stg1_0 (bands (av (xIn m ρ) c)))

theorem before_x (c : Dev nD) (d) : (dats m ρ 0 c).before (0 : Fin 2) t0_0 d = xIn m ρ c := by
  unfold Dat.before; rw [if_pos (show (cfg0.win (0 : Fin 2)).fetch t0_0 = true from rfl)]; rfl

/-- What the launch gives a device is what its kernel needs. -/
theorem pre_open (c : Dev nD) : bodyPre m ρ c ⊢ iprop(∃ K, know (xIn m ρ) K
    ∗ (linear (F := F) c ∗ credits (F := F) c ∗ buffers₀ (xIn m ρ) c) ∗ held (F := F) c (O₀ c)) := by
  unfold bodyPre Φ₀ start know buffers₀ held Dat.owesAt Pipeline.owesWithin
  iintro ⟨⟨⟨⟨%K, HR, Hl⟩, Hc, Hlev⟩, Hs, Hp⟩, ⟨%W, -, HO⟩, ⟨%d, %g, %hg, Hx⟩, ⟨%d', %g', -, Ho⟩⟩
  rw [before_x] at hg
  subst hg
  iexists K
  isplitl [HR Hlev]; · isplitl [HR] <;> iassumption
  isplitr [HO]
  · isplitl [Hl]; · iexact Hl
    isplitl [Hc]; · iexact Hc
    isplitl [Hx]; · iexact Hx
    isplitl [Ho]; · iexists g'; iexact Ho
    isplitl [Hs] <;> iassumption
  iexists W; iexact HO

/-- What its kernel leaves is what the launch wants back. -/
theorem post_close (c : Dev nD) : iprop((semVal (barCell c) 0 ∗ zeros (F := F) c ∗ buffers₁ (xIn m ρ) c) ∗ held (F := F) c (dues c []))
    ⊢ bodyPost m ρ c := by
  unfold bodyPost Φ₁ buffers₁ held Dat.owesAt Pipeline.owesWithin
  iintro ⟨⟨Hb, Hz, Hx, Ho, Hs, Hp⟩, ⟨%W, HO⟩⟩
  isplitl [Hb Hz Hs Hp]
  · isplitl [Hb]; · iexact Hb
    isplitl [Hz]; · iexact Hz
    isplitl [Hs] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The kernel meets what the launch asks of it. -/
theorem body_obligation (c : Dev nD) : BodyObligation (dats (F := F) m ρ 0 c) (defs₀ (F := F)) 𝒱₀ () Set.univ := fun t => by
  rw [fin_N0 t]
  rw [bigSep_W0, bigSep_W0]
  simp only [owns_buffer]
  show bodyPre m ρ c ⊢ wp frame (wpE (defs₀ (F := F)) 𝒱₀ c none) Set.univ
    (cc0_body xM (Memref.isWhole_whole _) oM (Memref.isWhole_whole _) cM (Memref.isWhole_whole _) pM (Memref.isWhole_whole _) cc0_scratch2 cc0_scratch3)
    (fun _ => bodyPost m ρ c)
  rw [body_eq]
  simp only [Prog.lift, Prog.bind_op, Prog.bind_ret, wp_deviceId]
  refine (pre_open m ρ c).trans ?_
  iintro ⟨%K, HK, HA, HO⟩
  iapply (steps_ok (xIn m ρ) K c fun _ => bodyPost m ρ c)
  isplitl [HK]; · iexact HK
  isplitl [HA]; · iexact HA
  isplitl [HO]; · iexact HO
  iintro H
  iapply (post_close m ρ c)
  iexact H

end Cert.KernelIdeal.Own

end
-- ==== Proof.Ideal.Deal.lean ====
/-
# Handing out the rights, and what is owed at the start

Before the kernels start, every semaphore's record is set up at once, and the rights to signal or to copy go to the devices that
use them: a barrier's two to its two peers, a receiving side's to the device that copies onto it (`rights_dealt`). What all
devices together owe at the start is what each one waits for (`credits_dealt`).
-/
module

public import proofs.«01_k».proof.Proof.Ideal.Point

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights that exist -/

theorem kcell_injective : Function.Injective (kcell : Dev nD × Key → GSem nD τ sig) := by
  rintro ⟨c, k⟩ ⟨c', k'⟩ h
  obtain rfl : c = c' := congrArg (fun g : GSem nD τ sig => g.1.1) h
  have hk : some k = some k' := by rw [← keyOf_csem, ← keyOf_csem, show csem k = csem k' from congrArg Prod.snd h]
  rw [Option.some.inj hk]
/-- All the semaphores of the exchange. -/
def allCells : Finset (GSem nD τ sig) := Finset.univ.map ⟨kcell, kcell_injective⟩

/-- A right: on a barrier one for each axis, on a copy's semaphore one. -/
abbrev tokOf (ct : Dev nD × (Bool ⊕ OKey)) : GSem nD τ sig × ℕ × Bool := match ct.2 with
  | .inl b => (barCell ct.1, 0, b)
  | .inr k => (kcell (ct.1, .inr k), 0, false)
theorem tokOf_injective : Function.Injective (tokOf : Dev nD × (Bool ⊕ OKey) → GSem nD τ sig × ℕ × Bool) := by
  rintro ⟨c, t⟩ ⟨c', t'⟩ h
  have hc (k k' : Key) (h : kcell (c, k) = kcell (c', k')) : c = c' ∧ k = k' := Prod.mk.inj (kcell_injective h)
  have h1 := congrArg Prod.fst h
  have h2 := congrArg (fun x : GSem nD τ sig × ℕ × Bool => x.2.2) h
  rcases t with b | k <;> rcases t' with b' | k'
  · obtain ⟨rfl, -⟩ := hc (.inl ()) (.inl ()) h1
    obtain rfl : b = b' := h2
    rfl
  · exact absurd (hc (.inl ()) (.inr k') h1).2 (fun h => by cases h)
  · exact absurd (hc (.inr k) (.inl ()) h1).2 (fun h => by cases h)
  · obtain ⟨rfl, hk⟩ := hc (.inr k) (.inr k') h1
    rw [Sum.inr.inj hk]
def allToks : Finset (GSem nD τ sig × ℕ × Bool) := Finset.univ.map ⟨tokOf, tokOf_injective⟩

/-- The ghost state the run starts from: the launch's own, and the exchange's. -/
def u₀ : UU :=
  (initOf (Pipeline.cells cfgs cellOf_inj) (Pipeline.launchToks cfgs cellOf_inj), initOf allCells allToks)

/-- The rights on device `c`'s own semaphores. -/
def toks (c : Dev nD) : sProp 𝕄 :=
  iprop((bigSep Finset.univ fun b : Bool => dutyTok ER (barCell c) 0 b) ∗ (bigSep Finset.univ fun j : Fin 8 => dutyTok ER (sndCell c j) 0 false)
    ∗ bigSep Finset.univ fun j : Fin 8 => dutyTok ER (rcvCell c j) 0 false)

/-- What exists for device `c`'s own semaphores before the kernels start. -/
def G (c : Dev nD) : sProp 𝕄 :=
  iprop((bigSep Finset.univ fun k : Key => roundState ER (Rd (xIn m ρ)) (kcell (c, k)) 0)
    ∗ (bigSep Finset.univ fun k : Key => iprop(atPos ER (kcell (c, k)) 0 ∅ 0 ∗ reached ER (kcell (c, k)) 0)) ∗ toks (F := F) c)
/-- What device `c` gets. -/
def G' (c : Dev nD) : sProp 𝕄 := iprop(∃ K, records (xIn m ρ) K ∗ linear (F := F) c)

omit [FloatOps F] in
theorem over_cells (Φ : GSem nD τ sig → sProp 𝕄) : bigSep allCells Φ = bigSep Finset.univ fun c : Dev nD => bigSep Finset.univ fun k : Key => Φ (kcell (c, k)) := by
  unfold allCells; rw [bigSep_map, bigSep_univ_prod]; rfl
omit [FloatOps F] in
theorem over_toks : bigSep allToks (fun x => (dutyTok ER x.1 x.2.1 x.2.2 : sProp 𝕄)) = bigSep Finset.univ fun c : Dev nD => toks (F := F) c := by
  unfold allToks; rw [bigSep_map, bigSep_univ_prod]
  refine bigSep_congr fun c _ => ?_
  unfold toks
  rw [bigSep_univ_sum, bigSep_univ_sum]
  rfl

theorem fund : BI.own (ER (initOf allCells allToks)) ⊢ (|==> bigSep Finset.univ (G m ρ) : sProp 𝕄) := by
  iintro HX
  imod (Rounds.fund ER (Rd (xIn m ρ)) allCells allToks) $$ HX with ⟨Hst, Hr, Hat, Htok⟩
  imodintro
  ihave Hst := (Entails.of_eq (over_cells fun g => roundState ER (Rd (xIn m ρ)) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold G; simp only [bigSep_sep']
  isplitl [Hst]; · iexact Hst
  isplitl [Hat Hr]
  · isplitl [Hat] <;> iassumption
  iexact Htok

/-! ## The counters at zero -/

omit [FloatOps F] in
theorem ownSems0_eq (c : Dev nD) : (Pipeline.ownSems0 (Ix := Unit) (Name := ℕ) (U := UU) (Lvl := ℕ) (Val := Elt F) (τ := τ) osem c : sProp 𝕄) = zeros (F := F) c := by
  unfold Pipeline.ownSems0 zeros; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem all_zero (c : Dev nD) : (bigSep Finset.univ fun k : Key => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_univ_sum, BI.bigSep_univ_of_subsingleton (i := ()), unscopedSems0_eq]; rfl

/-! ## Setting up the records -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (xIn m ρ)) κ (kcell (c, k))))
          ∗ (bigSep Finset.univ fun k => iprop(atPos ER (kcell (c, k)) 0 ∅ 0 ∗ reached ER (kcell (c, k)) 0)) ∗ toks (F := F) c) := by
  have halloc : iprop((bigSep Finset.univ fun k : Key => semVal (kcell (c, k)) 0) ∗ bigSep Finset.univ fun k : Key => roundState ER (Rd (xIn m ρ)) (kcell (c, k)) 0)
      ⊢ (|={Set.univ}=> bigSep Finset.univ fun k => iprop(∃ κ : ℕ, cellInv ER (Rd (xIn m ρ)) κ (kcell (c, k))) : sProp 𝕄) := by
    rw [← bigSep_sep']
    exact (bigSep_mono fun k _ => (Rounds.body_intro ER (Rd (xIn m ρ)) (kcell (c, k))).trans inv_alloc).trans (bigSep_fupd _ _)
  unfold G
  iintro ⟨Hos, Hus, Hst, Hat, Htok⟩
  ihave Hv := (Entails.of_eq (all_zero (F := F) c).symm) $$ [Hos Hus]
  · isplitl [Hus] <;> iassumption
  imod halloc $$ [Hv Hst] with Hinv
  · isplitl [Hv] <;> iassumption
  imodintro
  isplitl [Hinv]; · iexact Hinv
  isplitl [Hat] <;> iassumption

/-- The pairing of the devices over all barriers, and over all copies. -/
def axisSwap : Dev nD × Bool ≃ Dev nD × Bool :=
  ⟨fun p => (pr p.2 p.1, p.2), fun p => (pr p.2 p.1, p.2), fun p => by simp only [pr_pr], fun p => by simp only [pr_pr]⟩
def copySwap : Dev nD × Fin 8 ≃ Dev nD × Fin 8 :=
  ⟨fun p => (peer p.2 p.1, p.2), fun p => (peer p.2 p.1, p.2), fun p => by simp only [peer_peer], fun p => by simp only [peer_peer]⟩

omit [FloatOps F] in
/-- The rights go to the devices that use them. -/
theorem rights_dealt : (bigSep Finset.univ fun c : Dev nD => toks (F := F) c) = bigSep Finset.univ fun c : Dev nD => payToks (F := F) c := by
  have hb : (bigSep Finset.univ fun c : Dev nD => bigSep Finset.univ fun b : Bool => (dutyTok ER (barCell c) 0 b : sProp 𝕄))
      = bigSep Finset.univ fun c : Dev nD => bigSep Finset.univ fun b : Bool => dutyTok ER (barCell (pr b c)) 0 b := by
    rw [← bigSep_univ_prod (fun p : Dev nD × Bool => (dutyTok ER (barCell p.1) 0 p.2 : sProp 𝕄)),
      bigSep_univ_equiv axisSwap, ← bigSep_univ_prod (fun p : Dev nD × Bool => (dutyTok ER (barCell (pr p.2 p.1)) 0 p.2 : sProp 𝕄))]
    rfl
  have hr : (bigSep Finset.univ fun c : Dev nD => bigSep Finset.univ fun j : Fin 8 => (dutyTok ER (rcvCell c j) 0 false : sProp 𝕄))
      = bigSep Finset.univ fun c : Dev nD => bigSep Finset.univ fun j : Fin 8 => dutyTok ER (rcvCell (peer j c) j) 0 false := by
    rw [← bigSep_univ_prod (fun p : Dev nD × Fin 8 => (dutyTok ER (rcvCell p.1 p.2) 0 false : sProp 𝕄)),
      bigSep_univ_equiv copySwap, ← bigSep_univ_prod (fun p : Dev nD × Fin 8 => (dutyTok ER (rcvCell (peer p.2 p.1) p.2) 0 false : sProp 𝕄))]
    rfl
  unfold toks payToks ticket
  simp only [bigSep_sep']
  rw [hb, hr]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (xIn m ρ)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  simp only [bigSep_sep']
  rw [← bigSep_univ_prod (fun ck : Dev nD × Key => iprop(∃ κ : ℕ, cellInv ER (Rd (xIn m ρ)) κ (kcell ck))),
    ← bigSep_univ_prod (fun ck : Dev nD × Key => (reached ER (kcell ck) 0 : sProp 𝕄)), rights_dealt]
  iintro ⟨HI, ⟨Hat, #HR⟩, Htok⟩
  ihave HK := (BI.bigSep_exists_pi Finset.univ (fun (ck : Dev nD × Key) (κ : ℕ) => (cellInv ER (Rd (xIn m ρ)) κ (kcell ck) : sProp 𝕄))) $$ HI
  icases HK with ⟨%K, #HI⟩
  iapply (with_persistent (R := records (xIn m ρ) K) (Φ := fun c => linear (F := F) c)
    fun c _ => (show _ ⊢ G' m ρ c from exists_intro (Φ := fun K => iprop(records (xIn m ρ) K ∗ linear (F := F) c)) K))
  isplitr
  · unfold records; isplitl; · iexact HI
    iexact HR
  · unfold linear
    rw [bigSep_sep']
    isplitl [Hat] <;> iassumption

/-- Before the kernels start, every device gets the records and what is its own. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at the start -/

theorem bar_eq_iff {a b : Dev nD} : barCell a = barCell b ↔ a = b :=
  ⟨fun h => (Prod.mk.inj (kcell_injective (a₁ := (a, .inl ())) (a₂ := (b, .inl ())) h)).1, fun h => h ▸ rfl⟩
theorem rcv_eq_iff {a b : Dev nD} {i j : Fin 8} : rcvCell a i = rcvCell b j ↔ a = b ∧ i = j :=
  ⟨fun h => by
    have := Prod.mk.inj (kcell_injective (a₁ := (a, .inr (.inr i))) (a₂ := (b, .inr (.inr j))) h)
    exact ⟨this.1, Sum.inr.inj (Sum.inr.inj this.2)⟩, fun h => by rw [h.1, h.2]⟩
theorem bar_ne_rcv (a b : Dev nD) (j : Fin 8) : barCell a ≠ rcvCell b j := fun h => by
  cases (Prod.mk.inj (kcell_injective (a₁ := (a, .inl ())) (a₂ := (b, .inr (.inr j))) h)).2

/-- What device `d` owes at the receiving side of `c`'s copy `j`: the copy's credit, if `d` is the device whose copy lands there. -/
theorem owed_dues (d c : Dev nD) (j : Fin 8) : ∀ l : List (Fin 8), dues d l (rcvCell c j) () = l.count j * if d = peer j c then N else 0
  | [] => by rw [List.count_nil, Nat.zero_mul]; rfl
  | i :: l => by
    unfold dues due
    rw [Pi.add_apply, Finsupp.add_apply, owed_dues d c j l, List.count_cons, Nat.add_mul, tallyAt_apply]
    congr 1
    by_cases h : i = j
    · subst h
      rw [if_pos (beq_self_eq_true i), Nat.one_mul]
      by_cases hd : d = peer i c
      · subst hd; rw [if_pos ⟨by rw [peer_peer], rfl⟩, if_pos rfl]
      · rw [if_neg hd, if_neg fun h => hd (by rw [(rcv_eq_iff.mp h.1).1, peer_peer])]
    · rw [if_neg fun e => h (rcv_eq_iff.mp e.1).2.symm, if_neg (by simpa using h), Nat.zero_mul]

theorem owed_rcv (d c : Dev nD) (j : Fin 8) : O₀ d (rcvCell c j) () = if d = peer j c then N else 0 := by
  unfold O₀
  rw [Pi.add_apply, Finsupp.add_apply, Pi.add_apply, Finsupp.add_apply, owed_dues, show copies.count j = 1 from by revert j; decide, Nat.one_mul,
    tallyAt_ne_cell (bar_ne_rcv _ _ _).symm, tallyAt_ne_cell (bar_ne_rcv _ _ _).symm, Finsupp.zero_apply, Nat.add_zero, Nat.add_zero]

/-- What device `d` owes at `c`'s barrier: one unit if it is the one peer, one if it is the other. -/
theorem owed_bar (d c : Dev nD) : O₀ d (barCell c) () = (if d = pr true c then 1 else 0) + if d = pr false c then 1 else 0 := by
  have h0 : dues d copies (barCell c) () = 0 := by
    by_contra h
    obtain ⟨j, -, e⟩ := dues_pos d copies (Nat.pos_of_ne_zero h)
    exact bar_ne_rcv _ _ _ e
  have h1 (b : Bool) : (tallyAt (barCell (pr b d)) () 1 : CellTallies nD τ sig Unit) (barCell c) () = if d = pr b c then 1 else 0 := by
    rw [tallyAt_apply]
    by_cases hd : d = pr b c
    · subst hd; rw [if_pos ⟨by rw [pr_pr], rfl⟩, if_pos rfl]
    · rw [if_neg hd, if_neg fun h => hd (by rw [bar_eq_iff.mp h.1, pr_pr])]
  unfold O₀
  rw [Pi.add_apply, Finsupp.add_apply, Pi.add_apply, Finsupp.add_apply, h0, h1, h1, Nat.zero_add]
  cases ev d
  · rfl
  · exact Nat.add_comm _ _

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pr true c) fun _ => 1, Finset.sum_ite_eq' Finset.univ (pr false c) fun _ => 1, if_pos (Finset.mem_univ _), if_pos (Finset.mem_univ _)]

theorem launch_rcv (c : Dev nD) (j : Fin 8) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (peer j c) fun _ => N,
    if_pos (Finset.mem_univ _)]

theorem rcvS_injective : Function.Injective fun j : Fin 8 => (SemLoc.dma (rcvS j) : SemLoc sig) := fun i j h => by
  have := keyOf_rcv i
  rw [show SemLoc.dma (rcvS i) = SemLoc.dma (rcvS j) from h, keyOf_rcv] at this
  exact (Sum.inr.inj (Sum.inr.inj (Option.some.inj this))).symm

omit [FloatOps F] in
/-- What all devices owe at device `c`'s semaphores is what it waits for. -/
theorem credits_dealt (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := Finset.univ.map ⟨_, rcvS_injective⟩) fun x hx => ?_).trans ?_
  · obtain ⟨j, -, rfl⟩ := Finset.mem_map.mp hx
    exact Finset.mem_erase.mpr ⟨(fun h => by cases h), Finset.mem_univ _⟩
  · rw [bigSep_map]
    exact bigSep_mono fun j _ => Entails.of_eq (congrArg cred (launch_rcv c j))

end Cert.KernelIdeal.Own

end
-- ==== Proof.Ideal.Run.lean ====
/-
# The whole run

From any memory with every counter at zero, every execution of the four devices' kernels ends; then each device's block of `x` is
as it was, its output holds the activations of the totals, and every counter is at zero (`run_main`).
-/
module

public import proofs.«01_k».proof.Proof.Ideal.Deal
public import Idealize.ShloMosaic.Lib.Pipeline.CollectiveSegs
public import Idealize.ShloMosaic.Lib.Pipeline.ValueKit

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem own_sem_facts : Pipeline.OwnSemFacts cfg0.spec osem := by decide

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_dealt (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hb, Hz, Hs, Hp⟩
  isplitl [Hb]; · iexact Hb
  isplitl [Hz]; · iexact Hz
  isplitl [Hs]; · iexists _; iexact Hs
  iexists _; iexact Hp

/-- The launch's own waits, before the kernel and after it, are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- Every execution ends, with each device's arrays at `finalA` and every counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sem_facts (Pipeline.PreFacts.none _) EP defs₀ 𝒱₀ m ρ main
    (hmain := fun _ => rfl) (hbody := body_obligation m ρ) (hne := block_pos0) (harr := arr_whole0) (hstage := stage_whole0)
    (hshare := share_full m ρ) (hdistinct := winFacts0.arr_inj)
    (O₀ := O₀) (howed₀ := fun _ => rfl) (howedN := fun _ => rfl) (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ) (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = m ((c : Thread nD τ).loc main_arg0) :=
  (dats (F := F) m ρ 0 c).arrAt_in (0 : Fin 2) rfl _

/-- The block of `x` a device's kernel works on is its whole argument array. -/
theorem xIn_eq (c : Dev nD) : xIn m ρ c = m ((c : Thread nD τ).loc main_arg0) := by
  funext i
  refine congrArg (m ((c : Thread nD τ).loc main_arg0)) (funext fun a => Fin.ext ?_)
  exact Pipeline.Window.rect_emb_val_of_index_zero win0_0 (0 : Fin 1) a rfl i

/-- The output array holds what the kernel left in its output buffer. -/
theorem finalA_out (c : Dev nD) : finalA m ρ c (1 : Fin 2) = bands (av (fun d : Dev nD => m ((d : Thread nD τ).loc main_arg0)) c) := by
  rw [← show xIn m ρ = fun d : Dev nD => m ((d : Thread nD τ).loc main_arg0) from funext fun d => xIn_eq m ρ d]
  exact (dats m ρ 0 c).arrAt_eq_of_after_last (1 : Fin 2) t0_0 (by decide +kernel) _ fun j => rfl

/-- Every execution ends; then each device's output holds the activations of the totals of its chunks, its block of `x` is as
    it was, and every counter is at zero. -/
theorem run_main : θ_run defs (onTc (τ := τ) (main (F := F))) (s₀ m ρ)
    (fun r => (∀ c : Dev nD, r.2.mem ((c : Thread nD τ).loc main_v1) = bands (av (fun d : Dev nD => m ((d : Thread nD τ).loc main_arg0)) c)
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_out m ρ c), (h.1 c (0 : Fin 2)).trans (finalA_x m ρ c)⟩, h.2⟩)
    (run_arrays m ρ)

end Cert.KernelIdeal.Own

end
-- ==== Proof.Ideal.Total.lean ====
/-
# What a device ends with, element by element

Over extended reals the four chunks a device adds up are the four devices' chunks, one each: a chunk crosses one axis of
the square and then the other. So the total at an index is the sum over all devices of their blocks there
(`tv_apply`), and the output is one function, `curve`, of that sum (`out_apply`).
-/
module

public import proofs.«01_k».proof.Proof.Ideal.Chunks
public import Idealize.ShloMosaic.PureOps.Ideal.Laws

@[expose] public section

noncomputable section

namespace Cert.KernelIdeal.Own

open Cert.KernelIdeal Cert.KernelIdeal.Gen
open Idealize.ShloMosaic
open Idealize.ShloMosaic.TcCoe

/-- What one number of the total is turned into: `tanh s * s * s` plus the cube of the larger of `s` and zero. -/
def curve (s : EReal) : EReal :=
  Ideal.tanh s * s * s + max s 0 * max s 0 * max s 0

/-- The activation of a chunk acts on each number by itself. -/
theorem act_apply (s : Chunk Ideal) (y : S128x256.Idx) : act s y = curve (s y) := by
  show (Ideal.tanh (s y) * (s y : EReal) * (s y : EReal)
    + max (s y : EReal) (Ideal.ofBits .f32 0x00000000#32) * max (s y : EReal) (Ideal.ofBits .f32 0x00000000#32)
      * max (s y : EReal) (Ideal.ofBits .f32 0x00000000#32) : EReal) = _
  rw [Ideal.ofBits_zero_f32]
  rfl

/-- A device, its peer across one axis, its peer across the other, and that one's peer across the first are all four devices. -/
theorem sum_square (g : Dev nD → EReal) (b : Bool) (c : Dev nD) :
    (g c + g (pr b c)) + (g (pr (!b) c) + g (pr b (pr (!b) c))) = ∑ d, g d := by
  have h : ∀ (b : Bool) (c : Dev nD), ({c, pr b c, pr (!b) c, pr b (pr (!b) c)} : Finset (Dev nD)) = Finset.univ
      ∧ c ∉ ({pr b c, pr (!b) c, pr b (pr (!b) c)} : Finset (Dev nD))
      ∧ pr b c ∉ ({pr (!b) c, pr b (pr (!b) c)} : Finset (Dev nD))
      ∧ pr (!b) c ∉ ({pr b (pr (!b) c)} : Finset (Dev nD)) := by decide
  obtain ⟨hu, h1, h2, h3⟩ := h b c
  rw [← hu, Finset.sum_insert h1, Finset.sum_insert h2, Finset.sum_insert h3, Finset.sum_singleton]
  simp only [add_assoc]

/-- A chunk's second crossing is along the axis its first one was not. -/
theorem side_hi (k : Fin 4) : side (hi k) = !side (lo k) := by revert k; decide

/-- A chunk's total is the sum of that chunk over all devices. -/
theorem tv_apply (X : Dev nD → Vec Ideal S512x256 .f32) (c : Dev nD) (k : Fin 4) (y : S128x256.Idx) :
    tv X c k y = (∑ d, xv X d k y : EReal) := by
  rw [← sum_square (fun d => xv X d k y) (side (lo k)) c, ← side_hi k]
  rfl

/-- The output holds, at every index, the curve of the sum over all devices of their blocks there. -/
theorem out_apply (X : Dev nD → Vec Ideal S512x256 .f32) (c : Dev nD) (i : S512x256.Idx) :
    bands (av X c) i = curve (∑ d, X d i : EReal) := by
  refine (act_apply _ _).trans (congrArg curve ((tv_apply X c _ _).trans (Finset.sum_congr rfl fun d _ => ?_)))
  exact congrFun (bands_xv X d) i

end Cert.KernelIdeal.Own

end
-- ==== Proof.Reference.lean ====
/-
# What the reference computes

The reference cuts the 2048 rows of its array into four blocks of 512, adds the blocks, and applies the same function to
each number of the sum. `total_apply` reads the sum at an index, `result_apply` the result.
-/
module

public import proofs.«01_k».proof.Proof.Gen.ReferenceIdeal.Run
public import proofs.«01_k».proof.Proof.Ideal.Total
public import Idealize.ShloMosaic.Lib.Pointwise
public import Idealize.ShloMosaic.Lib.Layout
public import Idealize.ShloMosaic.Lib.IdealHost

@[expose] public section

noncomputable section

namespace Cert.ReferenceIdeal.Own

open Cert.ReferenceIdeal Cert.ReferenceIdeal.Gen
open Idealize.ShloMosaic Idealize.ShloMosaic.TcCoe
open Cert.KernelIdeal.Own (curve)

/-- The sum of the four blocks of 512 rows of the array `A`. -/
def total (A : FVec Ideal S2048x256 .f32) : FVec Ideal S512x256 .f32 :=
  Host.reduceAdd (shapeCast S4x512x256 A shapeCasts_S2048x256_S4x512x256) (constant S_ .f32 0x00000000#32)
    reducesTo_S4x512x256_S512x256_d0 h_S_

/-- The larger of each number of the sum and zero. -/
def clipped (A : FVec Ideal S2048x256 .f32) : FVec Ideal S512x256 .f32 :=
  maximumf (total A) (broadcastInDim S512x256 ![] bcast_S_S512x256 (constant S_ .f32 0x00000000#32))

/-- The reference's result on the array `A`. -/
def result (A : FVec Ideal S2048x256 .f32) : FVec Ideal S512x256 .f32 :=
  addf (mulf (mulf (Host.tanh (total A)) (total A)) (total A)) (mulf (mulf (clipped A) (clipped A)) (clipped A))

/-- The block device `k` holds of the array `A`. -/
def held (A : FVec Ideal S2048x256 .f32) (k : Fin 4) : FVec Ideal S512x256 .f32 :=
  Layout.block ⟨2, ![512, 256]⟩ ⟨2, ![2048, 256]⟩ 0 4 k A

/-- Block `k` of the array as the reference cuts it is the block device `k` holds of it. -/
theorem cut_apply (A : FVec Ideal S2048x256 .f32) (k : Fin 4) (i : S512x256.Idx) :
    shapeCast S4x512x256 A shapeCasts_S2048x256_S4x512x256 (ix3 k (i 0) (i 1))
      = held A k i := by
  refine shapeCast_apply A _ _ _ ?_
  rw [Shape.rowMajor_val_two, Shape.rowMajor_val_three]
  rfl

/-- The sum at an index is the sum of the devices' blocks there. -/
theorem total_apply (A : FVec Ideal S2048x256 .f32) (i : S512x256.Idx) :
    total A i = (∑ k : Fin 4, held A k i : EReal) := by
  unfold total
  rw [Host.reduceAdd_apply]
  refine (Ideal.hostReduceAdd_r3_a0 _ _ _ i).trans ?_
  show (Ideal.ofBits .f32 0x00000000#32 + _ : EReal) = _
  rw [Ideal.ofBits_zero_f32, zero_add]
  exact Finset.sum_congr rfl fun k _ => cut_apply A k i

/-- The result at an index is the curve of the sum of the devices' blocks there. -/
theorem result_apply (A : FVec Ideal S2048x256 .f32) (i : S512x256.Idx) :
    result A i = curve (∑ k : Fin 4, held A k i : EReal) := by
  rw [← total_apply]
  show (Ideal.tanh (total A i) * (total A i : EReal) * (total A i : EReal)
    + max (total A i : EReal) (Ideal.ofBits .f32 0x00000000#32) * max (total A i : EReal) (Ideal.ofBits .f32 0x00000000#32)
      * max (total A i : EReal) (Ideal.ofBits .f32 0x00000000#32) : EReal) = _
  rw [Ideal.ofBits_zero_f32]
  rfl

end Cert.ReferenceIdeal.Own

end
-- ==== Proof.Equation.lean ====
/-
# The equation

When each device's block is its part of the reference's array, every device ends with the reference's result: both are
the same function of the sum of the four blocks.
-/
module

public import proofs.«01_k».proof.Proof.Reference

@[expose] public section

noncomputable section

namespace Cert.ReferenceIdeal.Own

open Cert.ReferenceIdeal Cert.ReferenceIdeal.Gen
open Idealize.ShloMosaic Idealize.ShloMosaic.TcCoe
open Cert.KernelIdeal.Own (bands av out_apply)

/-- What device `c` ends with, its block and the others' cut from the array `A`, is the reference's result on `A`. -/
theorem out_eq_result (A : FVec Ideal S2048x256 .f32)
    (X : Dev Cert.KernelIdeal.nD → FVec Ideal S512x256 .f32)
    (h : ∀ d, X d = held A d)
    (c : Dev Cert.KernelIdeal.nD) : (bands (F := Ideal) (av (F := Ideal) X c) : FVec Ideal S512x256 .f32) = result A := by
  funext i
  rw [out_apply, result_apply]
  exact congrArg _ (Finset.sum_congr rfl fun d _ => congrFun (h d) i)

end Cert.ReferenceIdeal.Own

end
-- ==== Proof.lean ====
/-
# The claims

The two frames of the kernel are its run read at machine words and at extended reals; the reference's frame is its own
run; the idealization rewrote no operation; and the value claim joins the kernel's run to the reference's by the
equation of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Word.Run
public import proofs.«01_k».proof.Proof.Ideal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel at machine words runs, leaves its argument as it was and every counter at zero. -/
theorem kernel_frame : Cert.quiescent_Kernel (hKernel := Cert.Kernel.Gen.facts) := fun m ρ _ =>
  (θ_run Cert.Kernel.defs _ _).mono (fun _ h => ⟨fun c => (h.1 c).2, h.2⟩) (Cert.Kernel.Own.run_main (F := Bits) m ρ)

/-- So does the kernel at extended reals. -/
theorem ideal_frame : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.Own.run_main (F := Ideal) m ρ)

/-- So does the reference, which has no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device of the kernel ends with the reference's result. -/
theorem value : Cert.algebraic_KernelIdeal_ReferenceIdeal (hKernelIdeal := Cert.KernelIdeal.Gen.facts)
    (hReferenceIdeal := Cert.ReferenceIdeal.Gen.facts) := fun m ρ m' ρ' _ hm =>
  ⟨Cert.ReferenceIdeal.Own.result (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.ReferenceIdeal.Own.out_eq_result _ _ hm c), (h.1 c).2⟩)
      (Cert.KernelIdeal.Own.run_main (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    kernel_frame, ideal_frame, reference_frame, trivial, value⟩

end Cert.Proof

end
